-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S16 : Shape := ⟨1, ![16]⟩
abbrev S_ : Shape := ⟨0, ![]⟩
abbrev S1 : Shape := ⟨1, ![1]⟩
abbrev S4096x2048 : Shape := ⟨2, ![4096, 2048]⟩
abbrev S6x256x512 : Shape := ⟨3, ![6, 256, 512]⟩
abbrev S6 : Shape := ⟨1, ![6]⟩
abbrev S256x1024 : Shape := ⟨2, ![256, 1024]⟩
abbrev S256x256 : Shape := ⟨2, ![256, 256]⟩
abbrev S256x512 : Shape := ⟨2, ![256, 512]⟩
abbrev S1x256x512 : Shape := ⟨3, ![1, 256, 512]⟩

abbrev nBuf : Space → Nat
  | .hbm => 76
  | .vmem => 7
  | .smem => 3
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i1⟩
  | .hbm, ⟨21, _⟩ => ⟨S1, .i1⟩
  | .hbm, ⟨22, _⟩ => ⟨S1, .i1⟩
  | .hbm, ⟨23, _⟩ => ⟨S_, .i1⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S1, .i1⟩
  | .hbm, ⟨42, _⟩ => ⟨S1, .i1⟩
  | .hbm, ⟨43, _⟩ => ⟨S1, .i1⟩
  | .hbm, ⟨44, _⟩ => ⟨S_, .i1⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S1, .i1⟩
  | .hbm, ⟨66, _⟩ => ⟨S1, .i1⟩
  | .hbm, ⟨67, _⟩ => ⟨S_, .i1⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S1, .i32⟩
  | .hbm, ⟨75, _⟩ => ⟨S4096x2048, .f32⟩
  | .local _ .vmem, ⟨0, _⟩ => ⟨S4096x256, .bf16⟩
  | .local _ .vmem, ⟨1, _⟩ => ⟨S256x2048, .bf16⟩
  | .local _ .vmem, ⟨2, _⟩ => ⟨S4096x2048, .f32⟩
  | .local _ .vmem, ⟨3, _⟩ => ⟨S6x256x512, .bf16⟩
  | .local _ .vmem, ⟨4, _⟩ => ⟨S6x256x512, .bf16⟩
  | .local _ .vmem, ⟨5, _⟩ => ⟨S6x256x512, .bf16⟩
  | .local _ .vmem, ⟨6, _⟩ => ⟨S6x256x512, .bf16⟩
  | .local _ .smem, ⟨0, _⟩ => ⟨S1, .i32⟩
  | .local _ .smem, ⟨1, _⟩ => ⟨S1, .i32⟩
  | .local _ .smem, ⟨2, _⟩ => ⟨S1, .i32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_c_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_c_1 : Ref sig .tc := ⟨.hbm, 17, rfl⟩
abbrev main_call0_c_2 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_c_3 : Ref sig .tc := ⟨.hbm, 23, rfl⟩
abbrev main_call0_v8 : Ref sig .tc := ⟨.hbm, 24, rfl⟩
abbrev main_call0_v9 : Ref sig .tc := ⟨.hbm, 25, rfl⟩
abbrev main_call0_c_4 : Ref sig .tc := ⟨.hbm, 26, rfl⟩
abbrev main_v5 : Ref sig .tc := ⟨.hbm, 27, rfl⟩
abbrev main_c_4 : Ref sig .tc := ⟨.hbm, 28, rfl⟩
abbrev main_v6 : Ref sig .tc := ⟨.hbm, 29, rfl⟩
abbrev main_c_5 : Ref sig .tc := ⟨.hbm, 30, rfl⟩
abbrev main_v7 : Ref sig .tc := ⟨.hbm, 31, rfl⟩
abbrev main_call1_c : Ref sig .tc := ⟨.hbm, 32, rfl⟩
abbrev main_call1_v0 : Ref sig .tc := ⟨.hbm, 33, rfl⟩
abbrev main_call1_c_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_c_1 : Ref sig .tc := ⟨.hbm, 38, rfl⟩
abbrev main_call1_c_2 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_c_3 : Ref sig .tc := ⟨.hbm, 44, rfl⟩
abbrev main_call1_v8 : Ref sig .tc := ⟨.hbm, 45, rfl⟩
abbrev main_call1_v9 : Ref sig .tc := ⟨.hbm, 46, rfl⟩
abbrev main_call1_c_4 : Ref sig .tc := ⟨.hbm, 47, rfl⟩
abbrev main_v8 : Ref sig .tc := ⟨.hbm, 48, rfl⟩
abbrev main_c_6 : Ref sig .tc := ⟨.hbm, 49, rfl⟩
abbrev main_v9 : Ref sig .tc := ⟨.hbm, 50, rfl⟩
abbrev main_c_7 : Ref sig .tc := ⟨.hbm, 51, rfl⟩
abbrev main_v10 : Ref sig .tc := ⟨.hbm, 52, rfl⟩
abbrev main_c_8 : Ref sig .tc := ⟨.hbm, 53, rfl⟩
abbrev main_v11 : Ref sig .tc := ⟨.hbm, 54, rfl⟩
abbrev main_call2_c : Ref sig .tc := ⟨.hbm, 55, rfl⟩
abbrev main_call2_v0 : Ref sig .tc := ⟨.hbm, 56, rfl⟩
abbrev main_call2_c_0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_c_1 : Ref sig .tc := ⟨.hbm, 61, rfl⟩
abbrev main_call2_c_2 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_c_3 : Ref sig .tc := ⟨.hbm, 67, rfl⟩
abbrev main_call2_v8 : Ref sig .tc := ⟨.hbm, 68, rfl⟩
abbrev main_call2_v9 : Ref sig .tc := ⟨.hbm, 69, rfl⟩
abbrev main_call2_c_4 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch3 : Ref sig .tc := ⟨.vmem, 4, rfl⟩
abbrev cc0_scratch6 : Ref sig .tc := ⟨.vmem, 5, rfl⟩
abbrev cc0_scratch9 : Ref sig .tc := ⟨.vmem, 6, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (v2 : BitVec 32) : Nat :=
  let c0_i32 : BitVec 32 := 0#32
  let c1_i32_2 : BitVec 32 := 1#32
  let v4 : BitVec 32 := Scalar.muli v2 c1_i32_2
  let v5 : BitVec 32 := Scalar.addi c0_i32 v4
  v5.toNat

def k0_dev2 (v1 : BitVec 32) : Nat :=
  let c0_i32_5 : BitVec 32 := 0#32
  let c1_i32_4 : BitVec 32 := 1#32
  let v6 : BitVec 32 := Scalar.muli v1 c1_i32_4
  let v7 : BitVec 32 := Scalar.addi c0_i32_5 v6
  v7.toNat

def k0_off1 (v0 : BitVec 32) : Fin 2 → Nat :=
  let c256_i32 : BitVec 32 := 256#32
  let v12 : BitVec 32 := Scalar.muli v0 c256_i32
  let v13 : Index := Scalar.indexCast v12
  let c0_9 : Index := 0#32
  ![v13.toNat, 0]

def k0_dev3 (v1 : BitVec 32) : Nat :=
  let c0_i32_30 : BitVec 32 := 0#32
  let c1_i32_29 : BitVec 32 := 1#32
  let v40 : BitVec 32 := Scalar.muli v1 c1_i32_29
  let v41 : BitVec 32 := Scalar.addi c0_i32_30 v40
  v41.toNat
def k0_dev4 (v1 : BitVec 32) : Nat :=
  let c0_i32_40 : BitVec 32 := 0#32
  let c1_i32_39 : BitVec 32 := 1#32
  let v50 : BitVec 32 := Scalar.muli v1 c1_i32_39
  let v51 : BitVec 32 := Scalar.addi c0_i32_40 v50
  v51.toNat
def k0_dev5 (v2 : BitVec 32) : Nat :=
  let c0_i32_50 : BitVec 32 := 0#32
  let c1_i32_49 : BitVec 32 := 1#32
  let v60 : BitVec 32 := Scalar.muli v2 c1_i32_49
  let v61 : BitVec 32 := Scalar.addi c0_i32_50 v60
  v61.toNat
def k0_dev6 (v2 : BitVec 32) : Nat :=
  let c0_i32_60 : BitVec 32 := 0#32
  let c1_i32_59 : BitVec 32 := 1#32
  let v70 : BitVec 32 := Scalar.muli v2 c1_i32_59
  let v71 : BitVec 32 := Scalar.addi c0_i32_60 v70
  v71.toNat
def k0_off2 (v0 : BitVec 32) (c15_i32 : BitVec 32) : Fin 2 → Nat :=
  let v80 : BitVec 32 := Scalar.addi v0 c15_i32
  let c16_i32 : BitVec 32 := 16#32
  let v81 : BitVec 32 := Scalar.remsi v80 c16_i32
  let c256_i32_65 : BitVec 32 := 256#32
  let v82 : BitVec 32 := Scalar.muli v81 c256_i32_65
  let v83 : Index := Scalar.indexCast v82
  let c0_66 : Index := 0#32
  ![v83.toNat, 0]
def k0_dev7 (v1 : BitVec 32) : Nat :=
  let c0_i32_93 : BitVec 32 := 0#32
  let c1_i32_92 : BitVec 32 := 1#32
  let v111 : BitVec 32 := Scalar.muli v1 c1_i32_92
  let v112 : BitVec 32 := Scalar.addi c0_i32_93 v111
  v112.toNat
def k0_dev8 (v2 : BitVec 32) : Nat :=
  let c0_i32_119 : BitVec 32 := 0#32
  let c1_i32_118 : BitVec 32 := 1#32
  let v138 : BitVec 32 := Scalar.muli v2 c1_i32_118
  let v139 : BitVec 32 := Scalar.addi c0_i32_119 v138
  v139.toNat
def k0_dev9 (v1 : BitVec 32) : Nat :=
  let c0_i32_145 : BitVec 32 := 0#32
  let c1_i32_144 : BitVec 32 := 1#32
  let v165 : BitVec 32 := Scalar.muli v1 c1_i32_144
  let v166 : BitVec 32 := Scalar.addi c0_i32_145 v165
  v166.toNat
def k0_dev10 (v2 : BitVec 32) : Nat :=
  let c0_i32_171 : BitVec 32 := 0#32
  let c1_i32_170 : BitVec 32 := 1#32
  let v192 : BitVec 32 := Scalar.muli v2 c1_i32_170
  let v193 : BitVec 32 := Scalar.addi c0_i32_171 v192
  v193.toNat
def k0_dev11 (v1 : BitVec 32) : Nat :=
  let c0_i32_204 : BitVec 32 := 0#32
  let c1_i32_203 : BitVec 32 := 1#32
  let v233 : BitVec 32 := Scalar.muli v1 c1_i32_203
  let v234 : BitVec 32 := Scalar.addi c0_i32_204 v233
  v234.toNat
def k0_dev12 (v2 : BitVec 32) : Nat :=
  let c0_i32_230 : BitVec 32 := 0#32
  let c1_i32_229 : BitVec 32 := 1#32
  let v260 : BitVec 32 := Scalar.muli v2 c1_i32_229
  let v261 : BitVec 32 := Scalar.addi c0_i32_230 v260
  v261.toNat
def k0_dev13 (v1 : BitVec 32) : Nat :=
  let c0_i32_256 : BitVec 32 := 0#32
  let c1_i32_255 : BitVec 32 := 1#32
  let v287 : BitVec 32 := Scalar.muli v1 c1_i32_255
  let v288 : BitVec 32 := Scalar.addi c0_i32_256 v287
  v288.toNat
def k0_dev14 (v2 : BitVec 32) : Nat :=
  let c0_i32_282 : BitVec 32 := 0#32
  let c1_i32_281 : BitVec 32 := 1#32
  let v314 : BitVec 32 := Scalar.muli v2 c1_i32_281
  let v315 : BitVec 32 := Scalar.addi c0_i32_282 v314
  v315.toNat
def k0_dev15 (v1 : BitVec 32) : Nat :=
  let c0_i32_315 : BitVec 32 := 0#32
  let c1_i32_314 : BitVec 32 := 1#32
  let v355 : BitVec 32 := Scalar.muli v1 c1_i32_314
  let v356 : BitVec 32 := Scalar.addi c0_i32_315 v355
  v356.toNat
def k0_dev16 (v2 : BitVec 32) : Nat :=
  let c0_i32_341 : BitVec 32 := 0#32
  let c1_i32_340 : BitVec 32 := 1#32
  let v382 : BitVec 32 := Scalar.muli v2 c1_i32_340
  let v383 : BitVec 32 := Scalar.addi c0_i32_341 v382
  v383.toNat
def k0_dev17 (v1 : BitVec 32) : Nat :=
  let c0_i32_367 : BitVec 32 := 0#32
  let c1_i32_366 : BitVec 32 := 1#32
  let v409 : BitVec 32 := Scalar.muli v1 c1_i32_366
  let v410 : BitVec 32 := Scalar.addi c0_i32_367 v409
  v410.toNat
def k0_dev18 (v2 : BitVec 32) : Nat :=
  let c0_i32_393 : BitVec 32 := 0#32
  let c1_i32_392 : BitVec 32 := 1#32
  let v436 : BitVec 32 := Scalar.muli v2 c1_i32_392
  let v437 : BitVec 32 := Scalar.addi c0_i32_393 v436
  v437.toNat
def k0_dev19 (v1 : BitVec 32) : Nat :=
  let c0_i32_426 : BitVec 32 := 0#32
  let c1_i32_425 : BitVec 32 := 1#32
  let v477 : BitVec 32 := Scalar.muli v1 c1_i32_425
  let v478 : BitVec 32 := Scalar.addi c0_i32_426 v477
  v478.toNat
def k0_dev20 (v2 : BitVec 32) : Nat :=
  let c0_i32_452 : BitVec 32 := 0#32
  let c1_i32_451 : BitVec 32 := 1#32
  let v504 : BitVec 32 := Scalar.muli v2 c1_i32_451
  let v505 : BitVec 32 := Scalar.addi c0_i32_452 v504
  v505.toNat
def k0_dev21 (v1 : BitVec 32) : Nat :=
  let c0_i32_478 : BitVec 32 := 0#32
  let c1_i32_477 : BitVec 32 := 1#32
  let v531 : BitVec 32 := Scalar.muli v1 c1_i32_477
  let v532 : BitVec 32 := Scalar.addi c0_i32_478 v531
  v532.toNat
def k0_dev22 (v2 : BitVec 32) : Nat :=
  let c0_i32_504 : BitVec 32 := 0#32
  let c1_i32_503 : BitVec 32 := 1#32
  let v558 : BitVec 32 := Scalar.muli v2 c1_i32_503
  let v559 : BitVec 32 := Scalar.addi c0_i32_504 v558
  v559.toNat
def k0_dev23 (v1 : BitVec 32) : Nat :=
  let c0_i32_538 : BitVec 32 := 0#32
  let c1_i32_537 : BitVec 32 := 1#32
  let v599 : BitVec 32 := Scalar.muli v1 c1_i32_537
  let v600 : BitVec 32 := Scalar.addi c0_i32_538 v599
  v600.toNat
def k0_dev24 (v2 : BitVec 32) : Nat :=
  let c0_i32_564 : BitVec 32 := 0#32
  let c1_i32_563 : BitVec 32 := 1#32
  let v626 : BitVec 32 := Scalar.muli v2 c1_i32_563
  let v627 : BitVec 32 := Scalar.addi c0_i32_564 v626
  v627.toNat
def k0_dev25 (v1 : BitVec 32) : Nat :=
  let c0_i32_590 : BitVec 32 := 0#32
  let c1_i32_589 : BitVec 32 := 1#32
  let v653 : BitVec 32 := Scalar.muli v1 c1_i32_589
  let v654 : BitVec 32 := Scalar.addi c0_i32_590 v653
  v654.toNat
def k0_dev26 (v2 : BitVec 32) : Nat :=
  let c0_i32_616 : BitVec 32 := 0#32
  let c1_i32_615 : BitVec 32 := 1#32
  let v680 : BitVec 32 := Scalar.muli v2 c1_i32_615
  let v681 : BitVec 32 := Scalar.addi c0_i32_616 v680
  v681.toNat
def k0_dev27 (v1 : BitVec 32) : Nat :=
  let c0_i32_659 : BitVec 32 := 0#32
  let c1_i32_658 : BitVec 32 := 1#32
  let v727 : BitVec 32 := Scalar.muli v1 c1_i32_658
  let v728 : BitVec 32 := Scalar.addi c0_i32_659 v727
  v728.toNat
def k0_dev28 (v2 : BitVec 32) : Nat :=
  let c0_i32_694 : BitVec 32 := 0#32
  let c1_i32_693 : BitVec 32 := 1#32
  let v760 : BitVec 32 := Scalar.muli v2 c1_i32_693
  let v761 : BitVec 32 := Scalar.addi c0_i32_694 v760
  v761.toNat
def k0_dev29 (v1 : BitVec 32) : Nat :=
  let c0_i32_729 : BitVec 32 := 0#32
  let c1_i32_728 : BitVec 32 := 1#32
  let v793 : BitVec 32 := Scalar.muli v1 c1_i32_728
  let v794 : BitVec 32 := Scalar.addi c0_i32_729 v793
  v794.toNat
def k0_dev30 (v2 : BitVec 32) : Nat :=
  let c0_i32_764 : BitVec 32 := 0#32
  let c1_i32_763 : BitVec 32 := 1#32
  let v826 : BitVec 32 := Scalar.muli v2 c1_i32_763
  let v827 : BitVec 32 := Scalar.addi c0_i32_764 v826
  v827.toNat
def k0_dev31 (v1 : BitVec 32) : Nat :=
  let c0_i32_807 : BitVec 32 := 0#32
  let c1_i32_806 : BitVec 32 := 1#32
  let v873 : BitVec 32 := Scalar.muli v1 c1_i32_806
  let v874 : BitVec 32 := Scalar.addi c0_i32_807 v873
  v874.toNat
def k0_dev32 (v2 : BitVec 32) : Nat :=
  let c0_i32_842 : BitVec 32 := 0#32
  let c1_i32_841 : BitVec 32 := 1#32
  let v906 : BitVec 32 := Scalar.muli v2 c1_i32_841
  let v907 : BitVec 32 := Scalar.addi c0_i32_842 v906
  v907.toNat
def k0_dev33 (v1 : BitVec 32) : Nat :=
  let c0_i32_877 : BitVec 32 := 0#32
  let c1_i32_876 : BitVec 32 := 1#32
  let v939 : BitVec 32 := Scalar.muli v1 c1_i32_876
  let v940 : BitVec 32 := Scalar.addi c0_i32_877 v939
  v940.toNat
def k0_dev34 (v2 : BitVec 32) : Nat :=
  let c0_i32_912 : BitVec 32 := 0#32
  let c1_i32_911 : BitVec 32 := 1#32
  let v972 : BitVec 32 := Scalar.muli v2 c1_i32_911
  let v973 : BitVec 32 := Scalar.addi c0_i32_912 v972
  v973.toNat
def k0_dev35 (v1 : BitVec 32) : Nat :=
  let c0_i32_956 : BitVec 32 := 0#32
  let c1_i32_955 : BitVec 32 := 1#32
  let v1019 : BitVec 32 := Scalar.muli v1 c1_i32_955
  let v1020 : BitVec 32 := Scalar.addi c0_i32_956 v1019
  v1020.toNat
def k0_dev36 (v2 : BitVec 32) : Nat :=
  let c0_i32_991 : BitVec 32 := 0#32
  let c1_i32_990 : BitVec 32 := 1#32
  let v1052 : BitVec 32 := Scalar.muli v2 c1_i32_990
  let v1053 : BitVec 32 := Scalar.addi c0_i32_991 v1052
  v1053.toNat
def k0_dev37 (v1 : BitVec 32) : Nat :=
  let c0_i32_1026 : BitVec 32 := 0#32
  let c1_i32_1025 : BitVec 32 := 1#32
  let v1085 : BitVec 32 := Scalar.muli v1 c1_i32_1025
  let v1086 : BitVec 32 := Scalar.addi c0_i32_1026 v1085
  v1086.toNat
def k0_dev38 (v2 : BitVec 32) : Nat :=
  let c0_i32_1061 : BitVec 32 := 0#32
  let c1_i32_1060 : BitVec 32 := 1#32
  let v1118 : BitVec 32 := Scalar.muli v2 c1_i32_1060
  let v1119 : BitVec 32 := Scalar.addi c0_i32_1061 v1118
  v1119.toNat
def k0_dev39 (v1 : BitVec 32) : Nat :=
  let c0_i32_1106 : BitVec 32 := 0#32
  let c1_i32_1105 : BitVec 32 := 1#32
  let v1165 : BitVec 32 := Scalar.muli v1 c1_i32_1105
  let v1166 : BitVec 32 := Scalar.addi c0_i32_1106 v1165
  v1166.toNat
def k0_dev40 (v2 : BitVec 32) : Nat :=
  let c0_i32_1141 : BitVec 32 := 0#32
  let c1_i32_1140 : BitVec 32 := 1#32
  let v1198 : BitVec 32 := Scalar.muli v2 c1_i32_1140
  let v1199 : BitVec 32 := Scalar.addi c0_i32_1141 v1198
  v1199.toNat
def k0_dev41 (v1 : BitVec 32) : Nat :=
  let c0_i32_1176 : BitVec 32 := 0#32
  let c1_i32_1175 : BitVec 32 := 1#32
  let v1231 : BitVec 32 := Scalar.muli v1 c1_i32_1175
  let v1232 : BitVec 32 := Scalar.addi c0_i32_1176 v1231
  v1232.toNat
def k0_dev42 (v2 : BitVec 32) : Nat :=
  let c0_i32_1211 : BitVec 32 := 0#32
  let c1_i32_1210 : BitVec 32 := 1#32
  let v1264 : BitVec 32 := Scalar.muli v2 c1_i32_1210
  let v1265 : BitVec 32 := Scalar.addi c0_i32_1211 v1264
  v1265.toNat
def k0_dev43 (v1 : BitVec 32) : Nat :=
  let c0_i32_1256 : BitVec 32 := 0#32
  let c1_i32_1255 : BitVec 32 := 1#32
  let v1311 : BitVec 32 := Scalar.muli v1 c1_i32_1255
  let v1312 : BitVec 32 := Scalar.addi c0_i32_1256 v1311
  v1312.toNat
def k0_dev44 (v2 : BitVec 32) : Nat :=
  let c0_i32_1291 : BitVec 32 := 0#32
  let c1_i32_1290 : BitVec 32 := 1#32
  let v1344 : BitVec 32 := Scalar.muli v2 c1_i32_1290
  let v1345 : BitVec 32 := Scalar.addi c0_i32_1291 v1344
  v1345.toNat
def k0_dev45 (v1 : BitVec 32) : Nat :=
  let c0_i32_1326 : BitVec 32 := 0#32
  let c1_i32_1325 : BitVec 32 := 1#32
  let v1377 : BitVec 32 := Scalar.muli v1 c1_i32_1325
  let v1378 : BitVec 32 := Scalar.addi c0_i32_1326 v1377
  v1378.toNat
def k0_dev46 (v2 : BitVec 32) : Nat :=
  let c0_i32_1361 : BitVec 32 := 0#32
  let c1_i32_1360 : BitVec 32 := 1#32
  let v1410 : BitVec 32 := Scalar.muli v2 c1_i32_1360
  let v1411 : BitVec 32 := Scalar.addi c0_i32_1361 v1410
  v1411.toNat
def k0_dev47 (v1 : BitVec 32) : Nat :=
  let c0_i32_1406 : BitVec 32 := 0#32
  let c1_i32_1405 : BitVec 32 := 1#32
  let v1457 : BitVec 32 := Scalar.muli v1 c1_i32_1405
  let v1458 : BitVec 32 := Scalar.addi c0_i32_1406 v1457
  v1458.toNat
def k0_dev48 (v2 : BitVec 32) : Nat :=
  let c0_i32_1441 : BitVec 32 := 0#32
  let c1_i32_1440 : BitVec 32 := 1#32
  let v1490 : BitVec 32 := Scalar.muli v2 c1_i32_1440
  let v1491 : BitVec 32 := Scalar.addi c0_i32_1441 v1490
  v1491.toNat
def k0_dev49 (v1 : BitVec 32) : Nat :=
  let c0_i32_1476 : BitVec 32 := 0#32
  let c1_i32_1475 : BitVec 32 := 1#32
  let v1523 : BitVec 32 := Scalar.muli v1 c1_i32_1475
  let v1524 : BitVec 32 := Scalar.addi c0_i32_1476 v1523
  v1524.toNat
def k0_dev50 (v2 : BitVec 32) : Nat :=
  let c0_i32_1511 : BitVec 32 := 0#32
  let c1_i32_1510 : BitVec 32 := 1#32
  let v1556 : BitVec 32 := Scalar.muli v2 c1_i32_1510
  let v1557 : BitVec 32 := Scalar.addi c0_i32_1511 v1556
  v1557.toNat
def k0_dev51 (v1 : BitVec 32) : Nat :=
  let c0_i32_1556 : BitVec 32 := 0#32
  let c1_i32_1555 : BitVec 32 := 1#32
  let v1603 : BitVec 32 := Scalar.muli v1 c1_i32_1555
  let v1604 : BitVec 32 := Scalar.addi c0_i32_1556 v1603
  v1604.toNat
def k0_dev52 (v2 : BitVec 32) : Nat :=
  let c0_i32_1591 : BitVec 32 := 0#32
  let c1_i32_1590 : BitVec 32 := 1#32
  let v1636 : BitVec 32 := Scalar.muli v2 c1_i32_1590
  let v1637 : BitVec 32 := Scalar.addi c0_i32_1591 v1636
  v1637.toNat
def k0_dev53 (v1 : BitVec 32) : Nat :=
  let c0_i32_1626 : BitVec 32 := 0#32
  let c1_i32_1625 : BitVec 32 := 1#32
  let v1669 : BitVec 32 := Scalar.muli v1 c1_i32_1625
  let v1670 : BitVec 32 := Scalar.addi c0_i32_1626 v1669
  v1670.toNat
def k0_dev54 (v2 : BitVec 32) : Nat :=
  let c0_i32_1661 : BitVec 32 := 0#32
  let c1_i32_1660 : BitVec 32 := 1#32
  let v1702 : BitVec 32 := Scalar.muli v2 c1_i32_1660
  let v1703 : BitVec 32 := Scalar.addi c0_i32_1661 v1702
  v1703.toNat
def k0_dev55 (v1 : BitVec 32) : Nat :=
  let c0_i32_1706 : BitVec 32 := 0#32
  let c1_i32_1705 : BitVec 32 := 1#32
  let v1749 : BitVec 32 := Scalar.muli v1 c1_i32_1705
  let v1750 : BitVec 32 := Scalar.addi c0_i32_1706 v1749
  v1750.toNat
def k0_dev56 (v2 : BitVec 32) : Nat :=
  let c0_i32_1741 : BitVec 32 := 0#32
  let c1_i32_1740 : BitVec 32 := 1#32
  let v1782 : BitVec 32 := Scalar.muli v2 c1_i32_1740
  let v1783 : BitVec 32 := Scalar.addi c0_i32_1741 v1782
  v1783.toNat
def k0_dev57 (v1 : BitVec 32) : Nat :=
  let c0_i32_1776 : BitVec 32 := 0#32
  let c1_i32_1775 : BitVec 32 := 1#32
  let v1815 : BitVec 32 := Scalar.muli v1 c1_i32_1775
  let v1816 : BitVec 32 := Scalar.addi c0_i32_1776 v1815
  v1816.toNat
def k0_dev58 (v2 : BitVec 32) : Nat :=
  let c0_i32_1811 : BitVec 32 := 0#32
  let c1_i32_1810 : BitVec 32 := 1#32
  let v1848 : BitVec 32 := Scalar.muli v2 c1_i32_1810
  let v1849 : BitVec 32 := Scalar.addi c0_i32_1811 v1848
  v1849.toNat
def k0_dev59 (v1 : BitVec 32) : Nat :=
  let c0_i32_1856 : BitVec 32 := 0#32
  let c1_i32_1855 : BitVec 32 := 1#32
  let v1895 : BitVec 32 := Scalar.muli v1 c1_i32_1855
  let v1896 : BitVec 32 := Scalar.addi c0_i32_1856 v1895
  v1896.toNat
def k0_dev60 (v2 : BitVec 32) : Nat :=
  let c0_i32_1891 : BitVec 32 := 0#32
  let c1_i32_1890 : BitVec 32 := 1#32
  let v1928 : BitVec 32 := Scalar.muli v2 c1_i32_1890
  let v1929 : BitVec 32 := Scalar.addi c0_i32_1891 v1928
  v1929.toNat
def k0_dev61 (v1 : BitVec 32) : Nat :=
  let c0_i32_1926 : BitVec 32 := 0#32
  let c1_i32_1925 : BitVec 32 := 1#32
  let v1961 : BitVec 32 := Scalar.muli v1 c1_i32_1925
  let v1962 : BitVec 32 := Scalar.addi c0_i32_1926 v1961
  v1962.toNat
def k0_dev62 (v2 : BitVec 32) : Nat :=
  let c0_i32_1961 : BitVec 32 := 0#32
  let c1_i32_1960 : BitVec 32 := 1#32
  let v1994 : BitVec 32 := Scalar.muli v2 c1_i32_1960
  let v1995 : BitVec 32 := Scalar.addi c0_i32_1961 v1994
  v1995.toNat
def k0_dev63 (v1 : BitVec 32) : Nat :=
  let c0_i32_2006 : BitVec 32 := 0#32
  let c1_i32_2005 : BitVec 32 := 1#32
  let v2041 : BitVec 32 := Scalar.muli v1 c1_i32_2005
  let v2042 : BitVec 32 := Scalar.addi c0_i32_2006 v2041
  v2042.toNat
def k0_off3 (v0 : BitVec 32) (c1_i32_2011 : BitVec 32) : Fin 2 → Nat :=
  let v2051 : BitVec 32 := Scalar.addi v0 c1_i32_2011
  let c16_i32_2012 : BitVec 32 := 16#32
  let v2052 : BitVec 32 := Scalar.remsi v2051 c16_i32_2012
  let c256_i32_2013 : BitVec 32 := 256#32
  let v2053 : BitVec 32 := Scalar.muli v2052 c256_i32_2013
  let v2054 : Index := Scalar.indexCast v2053
  let c0_2014 : Index := 0#32
  ![v2054.toNat, 0]
def k0_dev64 (v2 : BitVec 32) : Nat :=
  let c0_i32_2045 : BitVec 32 := 0#32
  let c1_i32_2044 : BitVec 32 := 1#32
  let v2079 : BitVec 32 := Scalar.muli v2 c1_i32_2044
  let v2080 : BitVec 32 := Scalar.addi c0_i32_2045 v2079
  v2080.toNat
def k0_off4 (v0 : BitVec 32) (c15_i32_2050 : BitVec 32) : Fin 2 → Nat :=
  let v2089 : BitVec 32 := Scalar.addi v0 c15_i32_2050
  let c16_i32_2051 : BitVec 32 := 16#32
  let v2090 : BitVec 32 := Scalar.remsi v2089 c16_i32_2051
  let c256_i32_2052 : BitVec 32 := 256#32
  let v2091 : BitVec 32 := Scalar.muli v2090 c256_i32_2052
  let v2092 : Index := Scalar.indexCast v2091
  let c1024_2053 : Index := 1024#32
  ![v2092.toNat, 1024]
def k0_dev65 (v1 : BitVec 32) : Nat :=
  let c0_i32_2084 : BitVec 32 := 0#32
  let c1_i32_2083 : BitVec 32 := 1#32
  let v2117 : BitVec 32 := Scalar.muli v1 c1_i32_2083
  let v2118 : BitVec 32 := Scalar.addi c0_i32_2084 v2117
  v2118.toNat
def k0_off5 (v0 : BitVec 32) (c1_i32_2089 : BitVec 32) : Fin 2 → Nat :=
  let v2127 : BitVec 32 := Scalar.addi v0 c1_i32_2089
  let c16_i32_2090 : BitVec 32 := 16#32
  let v2128 : BitVec 32 := Scalar.remsi v2127 c16_i32_2090
  let c256_i32_2091 : BitVec 32 := 256#32
  let v2129 : BitVec 32 := Scalar.muli v2128 c256_i32_2091
  let v2130 : Index := Scalar.indexCast v2129
  let c512 : Index := 512#32
  ![v2130.toNat, 512]
def k0_dev66 (v2 : BitVec 32) : Nat :=
  let c0_i32_2122 : BitVec 32 := 0#32
  let c1_i32_2121 : BitVec 32 := 1#32
  let v2155 : BitVec 32 := Scalar.muli v2 c1_i32_2121
  let v2156 : BitVec 32 := Scalar.addi c0_i32_2122 v2155
  v2156.toNat
def k0_off6 (v0 : BitVec 32) (c15_i32_2127 : BitVec 32) : Fin 2 → Nat :=
  let v2165 : BitVec 32 := Scalar.addi v0 c15_i32_2127
  let c16_i32_2128 : BitVec 32 := 16#32
  let v2166 : BitVec 32 := Scalar.remsi v2165 c16_i32_2128
  let c256_i32_2129 : BitVec 32 := 256#32
  let v2167 : BitVec 32 := Scalar.muli v2166 c256_i32_2129
  let v2168 : Index := Scalar.indexCast v2167
  let c1536 : Index := 1536#32
  ![v2168.toNat, 1536]

def k0_chk3 (v0 : BitVec 32) : Prop :=
  (∀ a, (k0_off1 v0) a + S256x256.size a ≤ S4096x256.size a) ∧
  (∀ (r : Fin 15), ∀ a, (k0_off2 v0 (BitVec.ofNat 32 (1 + r.val))) a + S256x256.size a ≤ S4096x256.size a) ∧
  (∀ (r : Fin 16), ∀ a, (k0_off3 v0 (BitVec.ofNat 32 (1 + r.val))) a + S256x512.size a ≤ S4096x2048.size a) ∧
  (∀ (r : Fin 16), ∀ a, (k0_off4 v0 (BitVec.ofNat 32 r.val)) a + S256x512.size a ≤ S4096x2048.size a) ∧
  (∀ (r : Fin 16), ∀ a, (k0_off5 v0 (BitVec.ofNat 32 (1 + r.val))) a + S256x512.size a ≤ S4096x2048.size a) ∧
  (∀ (r : Fin 16), ∀ a, (k0_off6 v0 (BitVec.ofNat 32 r.val)) a + S256x512.size a ≤ S4096x2048.size a)
theorem k0_off1_inb : ∀ (v0 : BitVec 32) (k0_hw3 : k0_chk3 v0), ∀ a, (k0_off1 v0) a + S256x256.size a ≤ S4096x256.size a := fun v0 k0_hw3 => k0_hw3.1
theorem k0_off2_inb : ∀ (v0 : BitVec 32) (k0_hw3 : k0_chk3 v0), ∀ (r : Fin 15), ∀ a, (k0_off2 v0 (BitVec.ofNat 32 (1 + r.val))) a + S256x256.size a ≤ S4096x256.size a := fun v0 k0_hw3 r => k0_hw3.2.1 r
theorem k0_off3_inb : ∀ (v0 : BitVec 32) (k0_hw3 : k0_chk3 v0), ∀ (r : Fin 16), ∀ a, (k0_off3 v0 (BitVec.ofNat 32 (1 + r.val))) a + S256x512.size a ≤ S4096x2048.size a := fun v0 k0_hw3 r => k0_hw3.2.2.1 r
theorem k0_off4_inb : ∀ (v0 : BitVec 32) (k0_hw3 : k0_chk3 v0), ∀ (r : Fin 16), ∀ a, (k0_off4 v0 (BitVec.ofNat 32 r.val)) a + S256x512.size a ≤ S4096x2048.size a := fun v0 k0_hw3 r => k0_hw3.2.2.2.1 r
theorem k0_off5_inb : ∀ (v0 : BitVec 32) (k0_hw3 : k0_chk3 v0), ∀ (r : Fin 16), ∀ a, (k0_off5 v0 (BitVec.ofNat 32 (1 + r.val))) a + S256x512.size a ≤ S4096x2048.size a := fun v0 k0_hw3 r => k0_hw3.2.2.2.2.1 r
theorem k0_off6_inb : ∀ (v0 : BitVec 32) (k0_hw3 : k0_chk3 v0), ∀ (r : Fin 16), ∀ a, (k0_off6 v0 (BitVec.ofNat 32 r.val)) a + S256x512.size a ≤ S4096x2048.size a := fun v0 k0_hw3 r => k0_hw3.2.2.2.2.2 r

def k0_dev67 (v1 : BitVec 32) : Nat :=
  let c0_i32_2154 : BitVec 32 := 0#32
  let c1_i32_2153 : BitVec 32 := 1#32
  let v2184 : BitVec 32 := Scalar.muli v1 c1_i32_2153
  let v2185 : BitVec 32 := Scalar.addi c0_i32_2154 v2184
  v2185.toNat
def k0_dev68 (v2 : BitVec 32) : Nat :=
  let c0_i32_2190 : BitVec 32 := 0#32
  let c1_i32_2189 : BitVec 32 := 1#32
  let v2216 : BitVec 32 := Scalar.muli v2 c1_i32_2189
  let v2217 : BitVec 32 := Scalar.addi c0_i32_2190 v2216
  v2217.toNat
def k0_dev69 (v1 : BitVec 32) : Nat :=
  let c0_i32_2226 : BitVec 32 := 0#32
  let c1_i32_2225 : BitVec 32 := 1#32
  let v2248 : BitVec 32 := Scalar.muli v1 c1_i32_2225
  let v2249 : BitVec 32 := Scalar.addi c0_i32_2226 v2248
  v2249.toNat
def k0_dev70 (v2 : BitVec 32) : Nat :=
  let c0_i32_2262 : BitVec 32 := 0#32
  let c1_i32_2261 : BitVec 32 := 1#32
  let v2280 : BitVec 32 := Scalar.muli v2 c1_i32_2261
  let v2281 : BitVec 32 := Scalar.addi c0_i32_2262 v2280
  v2281.toNat
def k0_dev71 (v1 : BitVec 32) : Nat :=
  let c0_i32_2298 : BitVec 32 := 0#32
  let c1_i32_2297 : BitVec 32 := 1#32
  let v2312 : BitVec 32 := Scalar.muli v1 c1_i32_2297
  let v2313 : BitVec 32 := Scalar.addi c0_i32_2298 v2312
  v2313.toNat
def k0_dev72 (v2 : BitVec 32) : Nat :=
  let c0_i32_2334 : BitVec 32 := 0#32
  let c1_i32_2333 : BitVec 32 := 1#32
  let v2344 : BitVec 32 := Scalar.muli v2 c1_i32_2333
  let v2345 : BitVec 32 := Scalar.addi c0_i32_2334 v2344
  v2345.toNat
def k0_dev73 (v1 : BitVec 32) : Nat :=
  let c0_i32_2370 : BitVec 32 := 0#32
  let c1_i32_2369 : BitVec 32 := 1#32
  let v2376 : BitVec 32 := Scalar.muli v1 c1_i32_2369
  let v2377 : BitVec 32 := Scalar.addi c0_i32_2370 v2376
  v2377.toNat
def k0_dev74 (v2 : BitVec 32) : Nat :=
  let c0_i32_2406 : BitVec 32 := 0#32
  let c1_i32_2405 : BitVec 32 := 1#32
  let v2408 : BitVec 32 := Scalar.muli v2 c1_i32_2405
  let v2409 : BitVec 32 := Scalar.addi c0_i32_2406 v2408
  v2409.toNat
def k0_dev75 (v1 : BitVec 32) : Nat :=
  let c0_i32_2442 : BitVec 32 := 0#32
  let c1_i32_2441 : BitVec 32 := 1#32
  let v2440 : BitVec 32 := Scalar.muli v1 c1_i32_2441
  let v2441 : BitVec 32 := Scalar.addi c0_i32_2442 v2440
  v2441.toNat
def k0_dev76 (v2 : BitVec 32) : Nat :=
  let c0_i32_2478 : BitVec 32 := 0#32
  let c1_i32_2477 : BitVec 32 := 1#32
  let v2472 : BitVec 32 := Scalar.muli v2 c1_i32_2477
  let v2473 : BitVec 32 := Scalar.addi c0_i32_2478 v2472
  v2473.toNat
def k0_dev77 (v1 : BitVec 32) : Nat :=
  let c0_i32_2514 : BitVec 32 := 0#32
  let c1_i32_2513 : BitVec 32 := 1#32
  let v2504 : BitVec 32 := Scalar.muli v1 c1_i32_2513
  let v2505 : BitVec 32 := Scalar.addi c0_i32_2514 v2504
  v2505.toNat
def k0_dev78 (v2 : BitVec 32) : Nat :=
  let c0_i32_2550 : BitVec 32 := 0#32
  let c1_i32_2549 : BitVec 32 := 1#32
  let v2536 : BitVec 32 := Scalar.muli v2 c1_i32_2549
  let v2537 : BitVec 32 := Scalar.addi c0_i32_2550 v2536
  v2537.toNat
def k0_dev79 (v1 : BitVec 32) : Nat :=
  let c0_i32_2586 : BitVec 32 := 0#32
  let c1_i32_2585 : BitVec 32 := 1#32
  let v2568 : BitVec 32 := Scalar.muli v1 c1_i32_2585
  let v2569 : BitVec 32 := Scalar.addi c0_i32_2586 v2568
  v2569.toNat
def k0_dev80 (v2 : BitVec 32) : Nat :=
  let c0_i32_2622 : BitVec 32 := 0#32
  let c1_i32_2621 : BitVec 32 := 1#32
  let v2600 : BitVec 32 := Scalar.muli v2 c1_i32_2621
  let v2601 : BitVec 32 := Scalar.addi c0_i32_2622 v2600
  v2601.toNat
def k0_dev81 (v1 : BitVec 32) : Nat :=
  let c0_i32_2658 : BitVec 32 := 0#32
  let c1_i32_2657 : BitVec 32 := 1#32
  let v2632 : BitVec 32 := Scalar.muli v1 c1_i32_2657
  let v2633 : BitVec 32 := Scalar.addi c0_i32_2658 v2632
  v2633.toNat
def k0_dev82 (v2 : BitVec 32) : Nat :=
  let c0_i32_2694 : BitVec 32 := 0#32
  let c1_i32_2693 : BitVec 32 := 1#32
  let v2664 : BitVec 32 := Scalar.muli v2 c1_i32_2693
  let v2665 : BitVec 32 := Scalar.addi c0_i32_2694 v2664
  v2665.toNat
def k0_dev83 (v1 : BitVec 32) : Nat :=
  let c0_i32_2730 : BitVec 32 := 0#32
  let c1_i32_2729 : BitVec 32 := 1#32
  let v2696 : BitVec 32 := Scalar.muli v1 c1_i32_2729
  let v2697 : BitVec 32 := Scalar.addi c0_i32_2730 v2696
  v2697.toNat
def k0_dev84 (v2 : BitVec 32) : Nat :=
  let c0_i32_2766 : BitVec 32 := 0#32
  let c1_i32_2765 : BitVec 32 := 1#32
  let v2728 : BitVec 32 := Scalar.muli v2 c1_i32_2765
  let v2729 : BitVec 32 := Scalar.addi c0_i32_2766 v2728
  v2729.toNat
def k0_dev85 (v1 : BitVec 32) : Nat :=
  let c0_i32_2802 : BitVec 32 := 0#32
  let c1_i32_2801 : BitVec 32 := 1#32
  let v2760 : BitVec 32 := Scalar.muli v1 c1_i32_2801
  let v2761 : BitVec 32 := Scalar.addi c0_i32_2802 v2760
  v2761.toNat
def k0_dev86 (v2 : BitVec 32) : Nat :=
  let c0_i32_2838 : BitVec 32 := 0#32
  let c1_i32_2837 : BitVec 32 := 1#32
  let v2792 : BitVec 32 := Scalar.muli v2 c1_i32_2837
  let v2793 : BitVec 32 := Scalar.addi c0_i32_2838 v2792
  v2793.toNat
def k0_dev87 (v1 : BitVec 32) : Nat :=
  let c0_i32_2874 : BitVec 32 := 0#32
  let c1_i32_2873 : BitVec 32 := 1#32
  let v2824 : BitVec 32 := Scalar.muli v1 c1_i32_2873
  let v2825 : BitVec 32 := Scalar.addi c0_i32_2874 v2824
  v2825.toNat
def k0_dev88 (v2 : BitVec 32) : Nat :=
  let c0_i32_2910 : BitVec 32 := 0#32
  let c1_i32_2909 : BitVec 32 := 1#32
  let v2856 : BitVec 32 := Scalar.muli v2 c1_i32_2909
  let v2857 : BitVec 32 := Scalar.addi c0_i32_2910 v2856
  v2857.toNat
def k0_dev89 (v1 : BitVec 32) : Nat :=
  let c0_i32_2946 : BitVec 32 := 0#32
  let c1_i32_2945 : BitVec 32 := 1#32
  let v2888 : BitVec 32 := Scalar.muli v1 c1_i32_2945
  let v2889 : BitVec 32 := Scalar.addi c0_i32_2946 v2888
  v2889.toNat
def k0_dev90 (v2 : BitVec 32) : Nat :=
  let c0_i32_2982 : BitVec 32 := 0#32
  let c1_i32_2981 : BitVec 32 := 1#32
  let v2920 : BitVec 32 := Scalar.muli v2 c1_i32_2981
  let v2921 : BitVec 32 := Scalar.addi c0_i32_2982 v2920
  v2921.toNat
def k0_dev91 (v1 : BitVec 32) : Nat :=
  let c0_i32_3018 : BitVec 32 := 0#32
  let c1_i32_3017 : BitVec 32 := 1#32
  let v2952 : BitVec 32 := Scalar.muli v1 c1_i32_3017
  let v2953 : BitVec 32 := Scalar.addi c0_i32_3018 v2952
  v2953.toNat
def k0_dev92 (v2 : BitVec 32) : Nat :=
  let c0_i32_3054 : BitVec 32 := 0#32
  let c1_i32_3053 : BitVec 32 := 1#32
  let v2984 : BitVec 32 := Scalar.muli v2 c1_i32_3053
  let v2985 : BitVec 32 := Scalar.addi c0_i32_3054 v2984
  v2985.toNat
def k0_dev93 (v1 : BitVec 32) : Nat :=
  let c0_i32_3090 : BitVec 32 := 0#32
  let c1_i32_3089 : BitVec 32 := 1#32
  let v3016 : BitVec 32 := Scalar.muli v1 c1_i32_3089
  let v3017 : BitVec 32 := Scalar.addi c0_i32_3090 v3016
  v3017.toNat
def k0_dev94 (v2 : BitVec 32) : Nat :=
  let c0_i32_3126 : BitVec 32 := 0#32
  let c1_i32_3125 : BitVec 32 := 1#32
  let v3048 : BitVec 32 := Scalar.muli v2 c1_i32_3125
  let v3049 : BitVec 32 := Scalar.addi c0_i32_3126 v3048
  v3049.toNat
def k0_dev95 (v1 : BitVec 32) : Nat :=
  let c0_i32_3162 : BitVec 32 := 0#32
  let c1_i32_3161 : BitVec 32 := 1#32
  let v3080 : BitVec 32 := Scalar.muli v1 c1_i32_3161
  let v3081 : BitVec 32 := Scalar.addi c0_i32_3162 v3080
  v3081.toNat
def k0_dev96 (v2 : BitVec 32) : Nat :=
  let c0_i32_3198 : BitVec 32 := 0#32
  let c1_i32_3197 : BitVec 32 := 1#32
  let v3112 : BitVec 32 := Scalar.muli v2 c1_i32_3197
  let v3113 : BitVec 32 := Scalar.addi c0_i32_3198 v3112
  v3113.toNat
def k0_dev97 (v1 : BitVec 32) : Nat :=
  let c0_i32_3234 : BitVec 32 := 0#32
  let c1_i32_3233 : BitVec 32 := 1#32
  let v3144 : BitVec 32 := Scalar.muli v1 c1_i32_3233
  let v3145 : BitVec 32 := Scalar.addi c0_i32_3234 v3144
  v3145.toNat
def k0_dev98 (v2 : BitVec 32) : Nat :=
  let c0_i32_3270 : BitVec 32 := 0#32
  let c1_i32_3269 : BitVec 32 := 1#32
  let v3176 : BitVec 32 := Scalar.muli v2 c1_i32_3269
  let v3177 : BitVec 32 := Scalar.addi c0_i32_3270 v3176
  v3177.toNat
def k0_dev99 (v1 : BitVec 32) : Nat :=
  let c0_i32_3306 : BitVec 32 := 0#32
  let c1_i32_3305 : BitVec 32 := 1#32
  let v3208 : BitVec 32 := Scalar.muli v1 c1_i32_3305
  let v3209 : BitVec 32 := Scalar.addi c0_i32_3306 v3208
  v3209.toNat
def k0_dev100 (v2 : BitVec 32) : Nat :=
  let c0_i32_3342 : BitVec 32 := 0#32
  let c1_i32_3341 : BitVec 32 := 1#32
  let v3240 : BitVec 32 := Scalar.muli v2 c1_i32_3341
  let v3241 : BitVec 32 := Scalar.addi c0_i32_3342 v3240
  v3241.toNat
def k0_dev101 (v1 : BitVec 32) : Nat :=
  let c0_i32_3378 : BitVec 32 := 0#32
  let c1_i32_3377 : BitVec 32 := 1#32
  let v3272 : BitVec 32 := Scalar.muli v1 c1_i32_3377
  let v3273 : BitVec 32 := Scalar.addi c0_i32_3378 v3272
  v3273.toNat
def k0_dev102 (v2 : BitVec 32) : Nat :=
  let c0_i32_3414 : BitVec 32 := 0#32
  let c1_i32_3413 : BitVec 32 := 1#32
  let v3304 : BitVec 32 := Scalar.muli v2 c1_i32_3413
  let v3305 : BitVec 32 := Scalar.addi c0_i32_3414 v3304
  v3305.toNat
def k0_dev103 (v1 : BitVec 32) : Nat :=
  let c0_i32_3450 : BitVec 32 := 0#32
  let c1_i32_3449 : BitVec 32 := 1#32
  let v3336 : BitVec 32 := Scalar.muli v1 c1_i32_3449
  let v3337 : BitVec 32 := Scalar.addi c0_i32_3450 v3336
  v3337.toNat
def k0_dev104 (v2 : BitVec 32) : Nat :=
  let c0_i32_3486 : BitVec 32 := 0#32
  let c1_i32_3485 : BitVec 32 := 1#32
  let v3368 : BitVec 32 := Scalar.muli v2 c1_i32_3485
  let v3369 : BitVec 32 := Scalar.addi c0_i32_3486 v3368
  v3369.toNat
def k0_dev105 (v1 : BitVec 32) : Nat :=
  let c0_i32_3522 : BitVec 32 := 0#32
  let c1_i32_3521 : BitVec 32 := 1#32
  let v3400 : BitVec 32 := Scalar.muli v1 c1_i32_3521
  let v3401 : BitVec 32 := Scalar.addi c0_i32_3522 v3400
  v3401.toNat
def k0_dev106 (v2 : BitVec 32) : Nat :=
  let c0_i32_3558 : BitVec 32 := 0#32
  let c1_i32_3557 : BitVec 32 := 1#32
  let v3432 : BitVec 32 := Scalar.muli v2 c1_i32_3557
  let v3433 : BitVec 32 := Scalar.addi c0_i32_3558 v3432
  v3433.toNat
def k0_dev107 (v1 : BitVec 32) : Nat :=
  let c0_i32_3594 : BitVec 32 := 0#32
  let c1_i32_3593 : BitVec 32 := 1#32
  let v3464 : BitVec 32 := Scalar.muli v1 c1_i32_3593
  let v3465 : BitVec 32 := Scalar.addi c0_i32_3594 v3464
  v3465.toNat
def k0_dev108 (v2 : BitVec 32) : Nat :=
  let c0_i32_3630 : BitVec 32 := 0#32
  let c1_i32_3629 : BitVec 32 := 1#32
  let v3496 : BitVec 32 := Scalar.muli v2 c1_i32_3629
  let v3497 : BitVec 32 := Scalar.addi c0_i32_3630 v3496
  v3497.toNat
def k0_dev109 (v1 : BitVec 32) : Nat :=
  let c0_i32_3666 : BitVec 32 := 0#32
  let c1_i32_3665 : BitVec 32 := 1#32
  let v3528 : BitVec 32 := Scalar.muli v1 c1_i32_3665
  let v3529 : BitVec 32 := Scalar.addi c0_i32_3666 v3528
  v3529.toNat
def k0_dev110 (v2 : BitVec 32) : Nat :=
  let c0_i32_3702 : BitVec 32 := 0#32
  let c1_i32_3701 : BitVec 32 := 1#32
  let v3560 : BitVec 32 := Scalar.muli v2 c1_i32_3701
  let v3561 : BitVec 32 := Scalar.addi c0_i32_3702 v3560
  v3561.toNat
def k0_dev111 (v1 : BitVec 32) : Nat :=
  let c0_i32_3738 : BitVec 32 := 0#32
  let c1_i32_3737 : BitVec 32 := 1#32
  let v3592 : BitVec 32 := Scalar.muli v1 c1_i32_3737
  let v3593 : BitVec 32 := Scalar.addi c0_i32_3738 v3592
  v3593.toNat
def k0_dev112 (v2 : BitVec 32) : Nat :=
  let c0_i32_3774 : BitVec 32 := 0#32
  let c1_i32_3773 : BitVec 32 := 1#32
  let v3624 : BitVec 32 := Scalar.muli v2 c1_i32_3773
  let v3625 : BitVec 32 := Scalar.addi c0_i32_3774 v3624
  v3625.toNat
def k0_dev113 (v1 : BitVec 32) : Nat :=
  let c0_i32_3810 : BitVec 32 := 0#32
  let c1_i32_3809 : BitVec 32 := 1#32
  let v3656 : BitVec 32 := Scalar.muli v1 c1_i32_3809
  let v3657 : BitVec 32 := Scalar.addi c0_i32_3810 v3656
  v3657.toNat
def k0_dev114 (v2 : BitVec 32) : Nat :=
  let c0_i32_3846 : BitVec 32 := 0#32
  let c1_i32_3845 : BitVec 32 := 1#32
  let v3688 : BitVec 32 := Scalar.muli v2 c1_i32_3845
  let v3689 : BitVec 32 := Scalar.addi c0_i32_3846 v3688
  v3689.toNat
def k0_dev115 (v1 : BitVec 32) : Nat :=
  let c0_i32_3882 : BitVec 32 := 0#32
  let c1_i32_3881 : BitVec 32 := 1#32
  let v3720 : BitVec 32 := Scalar.muli v1 c1_i32_3881
  let v3721 : BitVec 32 := Scalar.addi c0_i32_3882 v3720
  v3721.toNat
def k0_dev116 (v2 : BitVec 32) : Nat :=
  let c0_i32_3918 : BitVec 32 := 0#32
  let c1_i32_3917 : BitVec 32 := 1#32
  let v3752 : BitVec 32 := Scalar.muli v2 c1_i32_3917
  let v3753 : BitVec 32 := Scalar.addi c0_i32_3918 v3752
  v3753.toNat
def k0_dev117 (v1 : BitVec 32) : Nat :=
  let c0_i32_3954 : BitVec 32 := 0#32
  let c1_i32_3953 : BitVec 32 := 1#32
  let v3784 : BitVec 32 := Scalar.muli v1 c1_i32_3953
  let v3785 : BitVec 32 := Scalar.addi c0_i32_3954 v3784
  v3785.toNat
def k0_dev118 (v2 : BitVec 32) : Nat :=
  let c0_i32_3990 : BitVec 32 := 0#32
  let c1_i32_3989 : BitVec 32 := 1#32
  let v3816 : BitVec 32 := Scalar.muli v2 c1_i32_3989
  let v3817 : BitVec 32 := Scalar.addi c0_i32_3990 v3816
  v3817.toNat
def k0_dev119 (v1 : BitVec 32) : Nat :=
  let c0_i32_4026 : BitVec 32 := 0#32
  let c1_i32_4025 : BitVec 32 := 1#32
  let v3848 : BitVec 32 := Scalar.muli v1 c1_i32_4025
  let v3849 : BitVec 32 := Scalar.addi c0_i32_4026 v3848
  v3849.toNat
def k0_dev120 (v2 : BitVec 32) : Nat :=
  let c0_i32_4062 : BitVec 32 := 0#32
  let c1_i32_4061 : BitVec 32 := 1#32
  let v3880 : BitVec 32 := Scalar.muli v2 c1_i32_4061
  let v3881 : BitVec 32 := Scalar.addi c0_i32_4062 v3880
  v3881.toNat
def k0_dev121 (v1 : BitVec 32) : Nat :=
  let c0_i32_4098 : BitVec 32 := 0#32
  let c1_i32_4097 : BitVec 32 := 1#32
  let v3912 : BitVec 32 := Scalar.muli v1 c1_i32_4097
  let v3913 : BitVec 32 := Scalar.addi c0_i32_4098 v3912
  v3913.toNat

def k0_chk2_0 (v1 : BitVec 32) : Prop :=
  ((k0_dev2 v1) < nD) ∧
  ((k0_dev3 v1) < nD) ∧
  ((k0_dev4 v1) < nD) ∧
  ((k0_dev7 v1) < nD) ∧
  ((k0_dev9 v1) < nD) ∧
  ((k0_dev11 v1) < nD) ∧
  ((k0_dev13 v1) < nD) ∧
  ((k0_dev15 v1) < nD) ∧
  ((k0_dev17 v1) < nD) ∧
  ((k0_dev19 v1) < nD) ∧
  ((k0_dev21 v1) < nD) ∧
  ((k0_dev23 v1) < nD) ∧
  ((k0_dev25 v1) < nD) ∧
  ((k0_dev27 v1) < nD) ∧
  ((k0_dev29 v1) < nD) ∧
  ((k0_dev31 v1) < nD) ∧
  ((k0_dev33 v1) < nD) ∧
  ((k0_dev35 v1) < nD) ∧
  ((k0_dev37 v1) < nD) ∧
  ((k0_dev39 v1) < nD) ∧
  ((k0_dev41 v1) < nD) ∧
  ((k0_dev43 v1) < nD) ∧
  ((k0_dev45 v1) < nD) ∧
  ((k0_dev47 v1) < nD) ∧
  ((k0_dev49 v1) < nD) ∧
  ((k0_dev51 v1) < nD) ∧
  ((k0_dev53 v1) < nD) ∧
  ((k0_dev55 v1) < nD) ∧
  ((k0_dev57 v1) < nD) ∧
  ((k0_dev59 v1) < nD) ∧
  ((k0_dev61 v1) < nD) ∧
  ((k0_dev63 v1) < nD)
def k0_chk2_1 (v1 : BitVec 32) : Prop :=
  ((k0_dev65 v1) < nD) ∧
  ((k0_dev67 v1) < nD) ∧
  ((k0_dev69 v1) < nD) ∧
  ((k0_dev71 v1) < nD) ∧
  ((k0_dev73 v1) < nD) ∧
  ((k0_dev75 v1) < nD) ∧
  ((k0_dev77 v1) < nD) ∧
  ((k0_dev79 v1) < nD) ∧
  ((k0_dev81 v1) < nD) ∧
  ((k0_dev83 v1) < nD) ∧
  ((k0_dev85 v1) < nD) ∧
  ((k0_dev87 v1) < nD) ∧
  ((k0_dev89 v1) < nD) ∧
  ((k0_dev91 v1) < nD) ∧
  ((k0_dev93 v1) < nD) ∧
  ((k0_dev95 v1) < nD) ∧
  ((k0_dev97 v1) < nD) ∧
  ((k0_dev99 v1) < nD) ∧
  ((k0_dev101 v1) < nD) ∧
  ((k0_dev103 v1) < nD) ∧
  ((k0_dev105 v1) < nD) ∧
  ((k0_dev107 v1) < nD) ∧
  ((k0_dev109 v1) < nD) ∧
  ((k0_dev111 v1) < nD) ∧
  ((k0_dev113 v1) < nD) ∧
  ((k0_dev115 v1) < nD) ∧
  ((k0_dev117 v1) < nD) ∧
  ((k0_dev119 v1) < nD) ∧
  ((k0_dev121 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1
theorem k0_dev67_lt : ∀ (v1 : BitVec 32) (k0_hw2 : k0_chk2 v1), (k0_dev67 v1) < nD := fun v1 k0_hw2 => k0_hw2.2.2.1
theorem k0_dev69_lt : ∀ (v1 : BitVec 32) (k0_hw2 : k0_chk2 v1), (k0_dev69 v1) < nD := fun v1 k0_hw2 => k0_hw2.2.2.2.1
theorem k0_dev71_lt : ∀ (v1 : BitVec 32) (k0_hw2 : k0_chk2 v1), (k0_dev71 v1) < nD := fun v1 k0_hw2 => k0_hw2.2.2.2.2.1
theorem k0_dev73_lt : ∀ (v1 : BitVec 32) (k0_hw2 : k0_chk2 v1), (k0_dev73 v1) < nD := fun v1 k0_hw2 => k0_hw2.2.2.2.2.2.1
theorem k0_dev75_lt : ∀ (v1 : BitVec 32) (k0_hw2 : k0_chk2 v1), (k0_dev75 v1) < nD := fun v1 k0_hw2 => k0_hw2.2.2.2.2.2.2.1
theorem k0_dev77_lt : ∀ (v1 : BitVec 32) (k0_hw2 : k0_chk2 v1), (k0_dev77 v1) < nD := fun v1 k0_hw2 => k0_hw2.2.2.2.2.2.2.2.1
theorem k0_dev79_lt : ∀ (v1 : BitVec 32) (k0_hw2 : k0_chk2 v1), (k0_dev79 v1) < nD := fun v1 k0_hw2 => k0_hw2.2.2.2.2.2.2.2.2.1
theorem k0_dev81_lt : ∀ (v1 : BitVec 32) (k0_hw2 : k0_chk2 v1), (k0_dev81 v1) < nD := fun v1 k0_hw2 => k0_hw2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.1
theorem k0_dev85_lt : ∀ (v1 : BitVec 32) (k0_hw2 : k0_chk2 v1), (k0_dev85 v1) < nD := fun v1 k0_hw2 => k0_hw2.2.2.2.2.2.2.2.2.2.2.2.1
theorem k0_dev87_lt : ∀ (v1 : BitVec 32) (k0_hw2 : k0_chk2 v1), (k0_dev87 v1) < nD := fun v1 k0_hw2 => k0_hw2.2.2.2.2.2.2.2.2.2.2.2.2.1
theorem k0_dev89_lt : ∀ (v1 : BitVec 32) (k0_hw2 : k0_chk2 v1), (k0_dev89 v1) < nD := fun v1 k0_hw2 => k0_hw2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.1
theorem k0_dev93_lt : ∀ (v1 : BitVec 32) (k0_hw2 : k0_chk2 v1), (k0_dev93 v1) < nD := fun v1 k0_hw2 => k0_hw2.2.2.2.2.2.2.2.2.2.2.2.2.2.2.2.1
theorem k0_dev95_lt : ∀ (v1 : BitVec 32) (k0_hw2 : k0_chk2 v1), (k0_dev95 v1) < nD := fun v1 k0_hw2 => k0_hw2.2.2.2.2.2.2.2.2.2.2.2.2.2.2.2.2.1
theorem k0_dev97_lt : ∀ (v1 : BitVec 32) (k0_hw2 : k0_chk2 v1), (k0_dev97 v1) < nD := fun v1 k0_hw2 => k0_hw2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.1
theorem k0_dev101_lt : ∀ (v1 : BitVec 32) (k0_hw2 : k0_chk2 v1), (k0_dev101 v1) < nD := fun v1 k0_hw2 => k0_hw2.2.2.2.2.2.2.2.2.2.2.2.2.2.2.2.2.2.2.2.1
theorem k0_dev103_lt : ∀ (v1 : BitVec 32) (k0_hw2 : k0_chk2 v1), (k0_dev103 v1) < nD := fun v1 k0_hw2 => k0_hw2.2.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.2.2.2.2.2.2.2.2.2.2.2.2.2.2.2.2.2.2.2.2.2.2.2.2.2.2.2.2

def k0_dev122 (v2 : BitVec 32) : Nat :=
  let c0_i32_4134 : BitVec 32 := 0#32
  let c1_i32_4133 : BitVec 32 := 1#32
  let v3944 : BitVec 32 := Scalar.muli v2 c1_i32_4133
  let v3945 : BitVec 32 := Scalar.addi c0_i32_4134 v3944
  v3945.toNat

def k0_chk1_0 (v2 : BitVec 32) : Prop :=
  ((k0_dev1 v2) < nD) ∧
  ((k0_dev5 v2) < nD) ∧
  ((k0_dev6 v2) < nD) ∧
  ((k0_dev8 v2) < nD) ∧
  ((k0_dev10 v2) < nD) ∧
  ((k0_dev12 v2) < nD) ∧
  ((k0_dev14 v2) < nD) ∧
  ((k0_dev16 v2) < nD) ∧
  ((k0_dev18 v2) < nD) ∧
  ((k0_dev20 v2) < nD) ∧
  ((k0_dev22 v2) < nD) ∧
  ((k0_dev24 v2) < nD) ∧
  ((k0_dev26 v2) < nD) ∧
  ((k0_dev28 v2) < nD) ∧
  ((k0_dev30 v2) < nD) ∧
  ((k0_dev32 v2) < nD) ∧
  ((k0_dev34 v2) < nD) ∧
  ((k0_dev36 v2) < nD) ∧
  ((k0_dev38 v2) < nD) ∧
  ((k0_dev40 v2) < nD) ∧
  ((k0_dev42 v2) < nD) ∧
  ((k0_dev44 v2) < nD) ∧
  ((k0_dev46 v2) < nD) ∧
  ((k0_dev48 v2) < nD) ∧
  ((k0_dev50 v2) < nD) ∧
  ((k0_dev52 v2) < nD) ∧
  ((k0_dev54 v2) < nD) ∧
  ((k0_dev56 v2) < nD) ∧
  ((k0_dev58 v2) < nD) ∧
  ((k0_dev60 v2) < nD) ∧
  ((k0_dev62 v2) < nD) ∧
  ((k0_dev64 v2) < nD)
def k0_chk1_1 (v2 : BitVec 32) : Prop :=
  ((k0_dev66 v2) < nD) ∧
  ((k0_dev68 v2) < nD) ∧
  ((k0_dev70 v2) < nD) ∧
  ((k0_dev72 v2) < nD) ∧
  ((k0_dev74 v2) < nD) ∧
  ((k0_dev76 v2) < nD) ∧
  ((k0_dev78 v2) < nD) ∧
  ((k0_dev80 v2) < nD) ∧
  ((k0_dev82 v2) < nD) ∧
  ((k0_dev84 v2) < nD) ∧
  ((k0_dev86 v2) < nD) ∧
  ((k0_dev88 v2) < nD) ∧
  ((k0_dev90 v2) < nD) ∧
  ((k0_dev92 v2) < nD) ∧
  ((k0_dev94 v2) < nD) ∧
  ((k0_dev96 v2) < nD) ∧
  ((k0_dev98 v2) < nD) ∧
  ((k0_dev100 v2) < nD) ∧
  ((k0_dev102 v2) < nD) ∧
  ((k0_dev104 v2) < nD) ∧
  ((k0_dev106 v2) < nD) ∧
  ((k0_dev108 v2) < nD) ∧
  ((k0_dev110 v2) < nD) ∧
  ((k0_dev112 v2) < nD) ∧
  ((k0_dev114 v2) < nD) ∧
  ((k0_dev116 v2) < nD) ∧
  ((k0_dev118 v2) < nD) ∧
  ((k0_dev120 v2) < nD) ∧
  ((k0_dev122 v2) < nD)
def k0_chk1 (v2 : BitVec 32) : Prop :=
  k0_chk1_0 v2 ∧
  k0_chk1_1 v2
theorem k0_dev1_lt : ∀ (v2 : BitVec 32) (k0_hw1 : k0_chk1 v2), (k0_dev1 v2) < nD := fun v2 k0_hw1 => k0_hw1.1.1
theorem k0_dev5_lt : ∀ (v2 : BitVec 32) (k0_hw1 : k0_chk1 v2), (k0_dev5 v2) < nD := fun v2 k0_hw1 => k0_hw1.1.2.1
theorem k0_dev6_lt : ∀ (v2 : BitVec 32) (k0_hw1 : k0_chk1 v2), (k0_dev6 v2) < nD := fun v2 k0_hw1 => k0_hw1.1.2.2.1
theorem k0_dev8_lt : ∀ (v2 : BitVec 32) (k0_hw1 : k0_chk1 v2), (k0_dev8 v2) < nD := fun v2 k0_hw1 => k0_hw1.1.2.2.2.1
theorem k0_dev10_lt : ∀ (v2 : BitVec 32) (k0_hw1 : k0_chk1 v2), (k0_dev10 v2) < nD := fun v2 k0_hw1 => k0_hw1.1.2.2.2.2.1
theorem k0_dev12_lt : ∀ (v2 : BitVec 32) (k0_hw1 : k0_chk1 v2), (k0_dev12 v2) < nD := fun v2 k0_hw1 => k0_hw1.1.2.2.2.2.2.1
theorem k0_dev14_lt : ∀ (v2 : BitVec 32) (k0_hw1 : k0_chk1 v2), (k0_dev14 v2) < nD := fun v2 k0_hw1 => k0_hw1.1.2.2.2.2.2.2.1
theorem k0_dev16_lt : ∀ (v2 : BitVec 32) (k0_hw1 : k0_chk1 v2), (k0_dev16 v2) < nD := fun v2 k0_hw1 => k0_hw1.1.2.2.2.2.2.2.2.1
theorem k0_dev18_lt : ∀ (v2 : BitVec 32) (k0_hw1 : k0_chk1 v2), (k0_dev18 v2) < nD := fun v2 k0_hw1 => k0_hw1.1.2.2.2.2.2.2.2.2.1
theorem k0_dev20_lt : ∀ (v2 : BitVec 32) (k0_hw1 : k0_chk1 v2), (k0_dev20 v2) < nD := fun v2 k0_hw1 => k0_hw1.1.2.2.2.2.2.2.2.2.2.1
theorem k0_dev22_lt : ∀ (v2 : BitVec 32) (k0_hw1 : k0_chk1 v2), (k0_dev22 v2) < nD := fun v2 k0_hw1 => k0_hw1.1.2.2.2.2.2.2.2.2.2.2.1
theorem k0_dev24_lt : ∀ (v2 : BitVec 32) (k0_hw1 : k0_chk1 v2), (k0_dev24 v2) < nD := fun v2 k0_hw1 => k0_hw1.1.2.2.2.2.2.2.2.2.2.2.2.1
theorem k0_dev26_lt : ∀ (v2 : BitVec 32) (k0_hw1 : k0_chk1 v2), (k0_dev26 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev30_lt : ∀ (v2 : BitVec 32) (k0_hw1 : k0_chk1 v2), (k0_dev30 v2) < nD := fun v2 k0_hw1 => k0_hw1.1.2.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.2.1
theorem k0_dev34_lt : ∀ (v2 : BitVec 32) (k0_hw1 : k0_chk1 v2), (k0_dev34 v2) < nD := fun v2 k0_hw1 => k0_hw1.1.2.2.2.2.2.2.2.2.2.2.2.2.2.2.2.2.1
theorem k0_dev36_lt : ∀ (v2 : BitVec 32) (k0_hw1 : k0_chk1 v2), (k0_dev36 v2) < nD := fun v2 k0_hw1 => k0_hw1.1.2.2.2.2.2.2.2.2.2.2.2.2.2.2.2.2.2.1
theorem k0_dev38_lt : ∀ (v2 : BitVec 32) (k0_hw1 : k0_chk1 v2), (k0_dev38 v2) < nD := fun v2 k0_hw1 => k0_hw1.1.2.2.2.2.2.2.2.2.2.2.2.2.2.2.2.2.2.2.1
theorem k0_dev40_lt : ∀ (v2 : BitVec 32) (k0_hw1 : k0_chk1 v2), (k0_dev40 v2) < nD := fun v2 k0_hw1 => k0_hw1.1.2.2.2.2.2.2.2.2.2.2.2.2.2.2.2.2.2.2.2.1
theorem k0_dev42_lt : ∀ (v2 : BitVec 32) (k0_hw1 : k0_chk1 v2), (k0_dev42 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev46_lt : ∀ (v2 : BitVec 32) (k0_hw1 : k0_chk1 v2), (k0_dev46 v2) < nD := fun v2 k0_hw1 => k0_hw1.1.2.2.2.2.2.2.2.2.2.2.2.2.2.2.2.2.2.2.2.2.2.2.1
theorem k0_dev48_lt : ∀ (v2 : BitVec 32) (k0_hw1 : k0_chk1 v2), (k0_dev48 v2) < nD := fun v2 k0_hw1 => k0_hw1.1.2.2.2.2.2.2.2.2.2.2.2.2.2.2.2.2.2.2.2.2.2.2.2.1
theorem k0_dev50_lt : ∀ (v2 : BitVec 32) (k0_hw1 : k0_chk1 v2), (k0_dev50 v2) < nD := fun v2 k0_hw1 => k0_hw1.1.2.2.2.2.2.2.2.2.2.2.2.2.2.2.2.2.2.2.2.2.2.2.2.2.1
theorem k0_dev52_lt : ∀ (v2 : BitVec 32) (k0_hw1 : k0_chk1 v2), (k0_dev52 v2) < nD := fun v2 k0_hw1 => k0_hw1.1.2.2.2.2.2.2.2.2.2.2.2.2.2.2.2.2.2.2.2.2.2.2.2.2.2.1
theorem k0_dev54_lt : ∀ (v2 : BitVec 32) (k0_hw1 : k0_chk1 v2), (k0_dev54 v2) < nD := fun v2 k0_hw1 => k0_hw1.1.2.2.2.2.2.2.2.2.2.2.2.2.2.2.2.2.2.2.2.2.2.2.2.2.2.2.1
theorem k0_dev56_lt : ∀ (v2 : BitVec 32) (k0_hw1 : k0_chk1 v2), (k0_dev56 v2) < nD := fun v2 k0_hw1 => k0_hw1.1.2.2.2.2.2.2.2.2.2.2.2.2.2.2.2.2.2.2.2.2.2.2.2.2.2.2.2.1
theorem k0_dev58_lt : ∀ (v2 : BitVec 32) (k0_hw1 : k0_chk1 v2), (k0_dev58 v2) < nD := fun v2 k0_hw1 => k0_hw1.1.2.2.2.2.2.2.2.2.2.2.2.2.2.2.2.2.2.2.2.2.2.2.2.2.2.2.2.2.1
theorem k0_dev60_lt : ∀ (v2 : BitVec 32) (k0_hw1 : k0_chk1 v2), (k0_dev60 v2) < nD := fun v2 k0_hw1 => k0_hw1.1.2.2.2.2.2.2.2.2.2.2.2.2.2.2.2.2.2.2.2.2.2.2.2.2.2.2.2.2.2.1
theorem k0_dev62_lt : ∀ (v2 : BitVec 32) (k0_hw1 : k0_chk1 v2), (k0_dev62 v2) < nD := fun v2 k0_hw1 => k0_hw1.1.2.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.2
theorem k0_dev66_lt : ∀ (v2 : BitVec 32) (k0_hw1 : k0_chk1 v2), (k0_dev66 v2) < nD := fun v2 k0_hw1 => k0_hw1.2.1
theorem k0_dev68_lt : ∀ (v2 : BitVec 32) (k0_hw1 : k0_chk1 v2), (k0_dev68 v2) < nD := fun v2 k0_hw1 => k0_hw1.2.2.1
theorem k0_dev70_lt : ∀ (v2 : BitVec 32) (k0_hw1 : k0_chk1 v2), (k0_dev70 v2) < nD := fun v2 k0_hw1 => k0_hw1.2.2.2.1
theorem k0_dev72_lt : ∀ (v2 : BitVec 32) (k0_hw1 : k0_chk1 v2), (k0_dev72 v2) < nD := fun v2 k0_hw1 => k0_hw1.2.2.2.2.1
theorem k0_dev74_lt : ∀ (v2 : BitVec 32) (k0_hw1 : k0_chk1 v2), (k0_dev74 v2) < nD := fun v2 k0_hw1 => k0_hw1.2.2.2.2.2.1
theorem k0_dev76_lt : ∀ (v2 : BitVec 32) (k0_hw1 : k0_chk1 v2), (k0_dev76 v2) < nD := fun v2 k0_hw1 => k0_hw1.2.2.2.2.2.2.1
theorem k0_dev78_lt : ∀ (v2 : BitVec 32) (k0_hw1 : k0_chk1 v2), (k0_dev78 v2) < nD := fun v2 k0_hw1 => k0_hw1.2.2.2.2.2.2.2.1
theorem k0_dev80_lt : ∀ (v2 : BitVec 32) (k0_hw1 : k0_chk1 v2), (k0_dev80 v2) < nD := fun v2 k0_hw1 => k0_hw1.2.2.2.2.2.2.2.2.1
theorem k0_dev82_lt : ∀ (v2 : BitVec 32) (k0_hw1 : k0_chk1 v2), (k0_dev82 v2) < nD := fun v2 k0_hw1 => k0_hw1.2.2.2.2.2.2.2.2.2.1
theorem k0_dev84_lt : ∀ (v2 : BitVec 32) (k0_hw1 : k0_chk1 v2), (k0_dev84 v2) < nD := fun v2 k0_hw1 => k0_hw1.2.2.2.2.2.2.2.2.2.2.1
theorem k0_dev86_lt : ∀ (v2 : BitVec 32) (k0_hw1 : k0_chk1 v2), (k0_dev86 v2) < nD := fun v2 k0_hw1 => k0_hw1.2.2.2.2.2.2.2.2.2.2.2.1
theorem k0_dev88_lt : ∀ (v2 : BitVec 32) (k0_hw1 : k0_chk1 v2), (k0_dev88 v2) < nD := fun v2 k0_hw1 => k0_hw1.2.2.2.2.2.2.2.2.2.2.2.2.1
theorem k0_dev90_lt : ∀ (v2 : BitVec 32) (k0_hw1 : k0_chk1 v2), (k0_dev90 v2) < nD := fun v2 k0_hw1 => k0_hw1.2.2.2.2.2.2.2.2.2.2.2.2.2.1
theorem k0_dev92_lt : ∀ (v2 : BitVec 32) (k0_hw1 : k0_chk1 v2), (k0_dev92 v2) < nD := fun v2 k0_hw1 => k0_hw1.2.2.2.2.2.2.2.2.2.2.2.2.2.2.1
theorem k0_dev94_lt : ∀ (v2 : BitVec 32) (k0_hw1 : k0_chk1 v2), (k0_dev94 v2) < nD := fun v2 k0_hw1 => k0_hw1.2.2.2.2.2.2.2.2.2.2.2.2.2.2.2.1
theorem k0_dev96_lt : ∀ (v2 : BitVec 32) (k0_hw1 : k0_chk1 v2), (k0_dev96 v2) < nD := fun v2 k0_hw1 => k0_hw1.2.2.2.2.2.2.2.2.2.2.2.2.2.2.2.2.1
theorem k0_dev98_lt : ∀ (v2 : BitVec 32) (k0_hw1 : k0_chk1 v2), (k0_dev98 v2) < nD := fun v2 k0_hw1 => k0_hw1.2.2.2.2.2.2.2.2.2.2.2.2.2.2.2.2.2.1
theorem k0_dev100_lt : ∀ (v2 : BitVec 32) (k0_hw1 : k0_chk1 v2), (k0_dev100 v2) < nD := fun v2 k0_hw1 => k0_hw1.2.2.2.2.2.2.2.2.2.2.2.2.2.2.2.2.2.2.1
theorem k0_dev102_lt : ∀ (v2 : BitVec 32) (k0_hw1 : k0_chk1 v2), (k0_dev102 v2) < nD := fun v2 k0_hw1 => k0_hw1.2.2.2.2.2.2.2.2.2.2.2.2.2.2.2.2.2.2.2.1
theorem k0_dev104_lt : ∀ (v2 : BitVec 32) (k0_hw1 : k0_chk1 v2), (k0_dev104 v2) < nD := fun v2 k0_hw1 => k0_hw1.2.2.2.2.2.2.2.2.2.2.2.2.2.2.2.2.2.2.2.2.1
theorem k0_dev106_lt : ∀ (v2 : BitVec 32) (k0_hw1 : k0_chk1 v2), (k0_dev106 v2) < nD := fun v2 k0_hw1 => k0_hw1.2.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.2.2.2.2.2.2.2.2.2.2.2.2.2.2.2.2.2.2.2.2.2.1
theorem k0_dev110_lt : ∀ (v2 : BitVec 32) (k0_hw1 : k0_chk1 v2), (k0_dev110 v2) < nD := fun v2 k0_hw1 => k0_hw1.2.2.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.2.2.2.2.2.2.2.2.2.2.2.2.2.2.2.2.2.2.2.2.2.2.2.1
theorem k0_dev114_lt : ∀ (v2 : BitVec 32) (k0_hw1 : k0_chk1 v2), (k0_dev114 v2) < nD := fun v2 k0_hw1 => k0_hw1.2.2.2.2.2.2.2.2.2.2.2.2.2.2.2.2.2.2.2.2.2.2.2.2.2.1
theorem k0_dev116_lt : ∀ (v2 : BitVec 32) (k0_hw1 : k0_chk1 v2), (k0_dev116 v2) < nD := fun v2 k0_hw1 => k0_hw1.2.2.2.2.2.2.2.2.2.2.2.2.2.2.2.2.2.2.2.2.2.2.2.2.2.2.1
theorem k0_dev118_lt : ∀ (v2 : BitVec 32) (k0_hw1 : k0_chk1 v2), (k0_dev118 v2) < nD := fun v2 k0_hw1 => k0_hw1.2.2.2.2.2.2.2.2.2.2.2.2.2.2.2.2.2.2.2.2.2.2.2.2.2.2.2.1
theorem k0_dev120_lt : ∀ (v2 : BitVec 32) (k0_hw1 : k0_chk1 v2), (k0_dev120 v2) < nD := fun v2 k0_hw1 => k0_hw1.2.2.2.2.2.2.2.2.2.2.2.2.2.2.2.2.2.2.2.2.2.2.2.2.2.2.2.2.1
theorem k0_dev122_lt : ∀ (v2 : BitVec 32) (k0_hw1 : k0_chk1 v2), (k0_dev122 v2) < nD := fun v2 k0_hw1 => k0_hw1.2.2.2.2.2.2.2.2.2.2.2.2.2.2.2.2.2.2.2.2.2.2.2.2.2.2.2.2.2

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ring16.Text.lean ====
/-
  The kernel's text once more, hop by hop over a symbolic hop number.

  The printed body is cut every few dozen statements, with no regard to the hops. Here the same operations are written as
  one prologue, thirty iterations (`iter h`, four hops each: half `s`, direction `d`) and one epilogue, and `body_text`
  says that the printed body is this text.
-/
module

public import proofs.«01_k».proof.Proof.Gen.KernelIdeal
public import Idealize.ShloMosaic.Lib.Tactic

@[expose] public section

noncomputable section

namespace Cert.Ring16

open Cert.KernelIdeal Cert.KernelIdeal.Gen

open Idealize.ShloMosaic Idealize.SL.Sem

variable {F : FTy → Type} [FloatOps F]

/-! ## A channel: a ring of six slots and its two semaphore arrays -/

/-- One of the four channels of a device: its buffer of six slots, the semaphores of its sends (one per slot the send
    reads) and of its receives (one per slot a receive fills). -/
structure Chan where
  buf : Memref sig .tc .vmem S6x256x512 .bf16
  whole : buf.IsWhole
  snd : DmaSems sig S6
  rcv : DmaSems sig S6

theorem slot_inb (h : ℕ) : ∀ a, (![h % 6, 0, 0] : Fin 3 → ℕ) a + S1x256x512.size a ≤ S6x256x512.size a := by
  have := Nat.mod_lt h (by decide : 0 < 6)
  intro a
  fin_cases a
  · show h % 6 + 1 ≤ 6; omega
  · show 0 + 256 ≤ 256; omega
  · show 0 + 512 ≤ 512; omega

theorem sem_inb (h : ℕ) : ∀ a, (![h % 6] : Fin 1 → ℕ) a + S1.size a ≤ S6.size a := by
  have := Nat.mod_lt h (by decide : 0 < 6)
  intro a
  fin_cases a
  show h % 6 + 1 ≤ 6; omega

/-- The rectangle of slot `h % 6`. -/
abbrev slotRect (h : ℕ) : Rect S6x256x512 := Rect.unit (s := S6x256x512) ![h % 6, 0, 0] S1x256x512.size (slot_inb h)

theorem slot_words (h : ℕ) : (slotRect h).WholeWords (EltTy.packing .bf16) := by
  have key : ∀ j : ℕ, (hj : j < 6) → ∀ hb, (Rect.unit (s := S6x256x512) ![j, 0, 0] S1x256x512.size hb).WholeWords (EltTy.packing .bf16) := by
    intro j hj hb
    match j, hj, hb with
    | 0, _, _ => exact wordsbf16_S6x256x512_S1x256x512_0_0_0
    | 1, _, _ => exact wordsbf16_S6x256x512_S1x256x512_1_0_0
    | 2, _, _ => exact wordsbf16_S6x256x512_S1x256x512_2_0_0
    | 3, _, _ => exact wordsbf16_S6x256x512_S1x256x512_3_0_0
    | 4, _, _ => exact wordsbf16_S6x256x512_S1x256x512_4_0_0
    | 5, _, _ => exact wordsbf16_S6x256x512_S1x256x512_5_0_0
    | j + 6, hj, _ => exact absurd hj (by omega)
  exact key _ (Nat.mod_lt _ (by decide)) _

theorem slot_packed (h : ℕ) : (slotRect h).PackedRows (EltTy.packing .bf16) := by
  have key : ∀ j : ℕ, (hj : j < 6) → ∀ hb, (Rect.unit (s := S6x256x512) ![j, 0, 0] S1x256x512.size hb).PackedRows (EltTy.packing .bf16) := by
    intro j hj hb
    match j, hj, hb with
    | 0, _, _ => exact packedbf16_S6x256x512_S1x256x512_0_0_0
    | 1, _, _ => exact packedbf16_S6x256x512_S1x256x512_1_0_0
    | 2, _, _ => exact packedbf16_S6x256x512_S1x256x512_2_0_0
    | 3, _, _ => exact packedbf16_S6x256x512_S1x256x512_3_0_0
    | 4, _, _ => exact packedbf16_S6x256x512_S1x256x512_4_0_0
    | 5, _, _ => exact packedbf16_S6x256x512_S1x256x512_5_0_0
    | j + 6, hj, _ => exact absurd hj (by omega)
  exact key _ (Nat.mod_lt _ (by decide)) _

namespace Chan

variable (C : Chan)

/-- Slot `h % 6` as a 256×512 memref. -/
abbrev slot (h : ℕ) : Memref sig .tc .vmem S256x512 .bf16 :=
  (C.buf.slice (slotRect h) (fun _ => rfl)).squeeze S256x512 squeezes_S1x256x512_S256x512

/-- The send semaphore of slot `h % 6`, and the receive semaphore. -/
abbrev sndSem (h : ℕ) : DmaSem sig := ((C.snd.slice (Rect.unit (s := S6) ![h % 6] S1.size (sem_inb h))).squeeze S_ squeezes_S1_S_).sem
abbrev rcvSem (h : ℕ) : DmaSem sig := ((C.rcv.slice (Rect.unit (s := S6) ![h % 6] S1.size (sem_inb h))).squeeze S_ squeezes_S1_S_).sem

theorem slot_exact (h : ℕ) : (C.slot h).view.WordExact := (C.whole.wordExact_slice rfl _ (slot_words h)).reshape _ _

/-- Send `h`, from slot `h % 6` into slot `(h + 1) % 6` of device `dev`. -/
def send (dev : Dev nD) (h : ℕ) : Prog (TpuEff nD τ sig (Elt F) Λ₀ .tc) PUnit :=
  Prog.lift (.enqueueDma (C.slot h) (.remote (Dev.tc dev) (C.slot (h + 1)) (.dma (C.sndSem h))) (.dma (C.rcvSem (h + 1)))
    (C.slot_exact h) (C.slot_exact (h + 1)) ⟨⟨rfl, Or.inl rfl⟩, trivial⟩)

/-- The wait for the own send `h` to have left its slot. -/
def waitSend (h : ℕ) : Prog (TpuEff nD τ sig (Elt F) Λ₀ .tc) PUnit :=
  Prog.lift (.waitDma2 (C.sndSem h) (C.slot (h + 1)) (C.slot h) (C.slot_exact (h + 1)) (C.slot_exact h))

/-- The wait for the neighbour's send `h` to have landed in slot `(h + 1) % 6`. -/
def waitRecv (h : ℕ) : Prog (TpuEff nD τ sig (Elt F) Λ₀ .tc) PUnit :=
  Prog.lift (.waitDma2 (C.rcvSem (h + 1)) (C.slot h) (C.slot (h + 1)) (C.slot_exact h) (C.slot_exact (h + 1)))

/-- Slot `h % 6` as a vector, read and written. -/
def loadSlot (h : ℕ) : Prog (TpuEff nD τ sig (Elt F) Λ₀ .tc) (Vec F S1x256x512 .bf16) :=
  Prog.lift (.load C.buf (slotRect h).toLoadRect (View.loadsAt_vmem h_S1x256x512))
def storeSlot (h : ℕ) (v : FVec F S1x256x512 .bf16) : Prog (TpuEff nD τ sig (Elt F) Λ₀ .tc) PUnit :=
  Prog.lift (.store C.buf (slotRect h) v Finset.univ
    (View.stores_vmem h_S1x256x512 (C.whole.storeExact_slice rfl _ (slot_packed h)) (fun _ => rfl)) (.inl rfl))

end Chan

/-! ## The values a device computes -/

theorem half_slices (s : Bool) : S256x1024.Slices ![0, cond s 512 0] S256x512 :=
  match s with
  | false => slices_S256x1024_o0_0_S256x512
  | true => slices_S256x1024_o0_512_S256x512

/-- A block of `x` times one half of `w`. -/
def prod (w : FVec F S256x1024 .bf16) (x : Vec F S256x256 .bf16) : FVec F S256x1024 .f32 :=
  matmul dot_S256x256_S256x1024_S256x1024_1_0_0_1_n_n none (shapeCast S256x256 x shapeCasts_S256x256_S256x256) w (constant S256x1024 .f32 0x00000000#32)

/-- What a device puts into slot 0: half `s` of its own product, rounded. -/
def first (s : Bool) (p : FVec F S256x1024 .f32) : FVec F S256x512 .bf16 :=
  extractStridedSlice S256x512 ![0, cond s 512 0] (truncf .bf16 p bitsLt_bf16_f32) (half_slices s)

/-- What arrived plus half `s` of the own product. -/
def summed (s : Bool) (p : FVec F S256x1024 .f32) (v : FVec F S256x512 .bf16) : FVec F S256x512 .f32 :=
  addf (extf .f32 v bitsLt_bf16_f32) (extractStridedSlice S256x512 ![0, cond s 512 0] p (half_slices s))

/-- A slot's vector without its leading dimension of one, and with it. -/
abbrev drop1 (v : Vec F S1x256x512 .bf16) : FVec F S256x512 .bf16 := shapeCast S256x512 v shapeCasts_S1x256x512_S256x512
abbrev add1 (v : FVec F S256x512 .bf16) : FVec F S1x256x512 .bf16 := shapeCast S1x256x512 v shapeCasts_S256x512_S1x256x512

/-! ## The hops -/

/-- The rows of `x` that hop `h` adds (`h < 15`): block `my + 15 - h` in direction `r`, `my + h + 1` in direction `l`. -/
def xIdx (d : Bool) (h : ℕ) : Fin 15 := ⟨(cond d h (14 - h)) % 15, Nat.mod_lt _ (by decide)⟩

/-- The rows of the result that hop `h` fills (`14 ≤ h`). -/
def outIdx (d : Bool) (h : ℕ) : Fin 16 :=
  ⟨(cond d (cond (Nat.ble 15 h) (h - 15) 15) (cond (Nat.ble 15 h) (30 - h) 0)) % 16, Nat.mod_lt _ (by decide)⟩

/-- The rectangle of the result that hop `h` of half `s`, direction `d` fills. -/
def outOff (d s : Bool) (v0 : BitVec 32) (h : ℕ) : Fin 2 → ℕ :=
  cond d (cond s (k0_off6 v0 (BitVec.ofNat 32 (outIdx true h).val)) (k0_off4 v0 (BitVec.ofNat 32 (outIdx true h).val)))
    (cond s (k0_off5 v0 (BitVec.ofNat 32 (1 + (outIdx false h).val))) (k0_off3 v0 (BitVec.ofNat 32 (1 + (outIdx false h).val))))

theorem outOff_inb (d s : Bool) (v0 : BitVec 32) (hw3 : k0_chk3 v0) (h : ℕ) : ∀ a, outOff d s v0 h a + S256x512.size a ≤ S4096x2048.size a :=
  match d, s with
  | false, false => k0_off3_inb v0 hw3 _
  | true, false => k0_off4_inb v0 hw3 _
  | false, true => k0_off5_inb v0 hw3 _
  | true, true => k0_off6_inb v0 hw3 _

section Hops

variable (x : Memref sig .tc .vmem S4096x256 .bf16) (w : Memref sig .tc .vmem S256x2048 .bf16) (out : Memref sig .tc .vmem S4096x2048 .f32)
  (ch : Bool → Bool → Chan)
  (v0 v1 v2 : BitVec 32) (hw3 : k0_chk3 v0) (hw2 : k0_chk2 v1) (hw1 : k0_chk1 v2)

/-- The device direction `d` sends to. -/
def target (d : Bool) : Dev nD := cond d (⟨k0_dev1 v2, k0_dev1_lt v2 hw1⟩ : Dev nD) (⟨k0_dev2 v1, k0_dev2_lt v1 hw2⟩ : Dev nD)

/-- The rows of `x` at `off`. -/
def loadX (off : Fin 2 → ℕ) (hoff : ∀ a, off a + S256x256.size a ≤ S4096x256.size a) : Prog (TpuEff nD τ sig (Elt F) Λ₀ .tc) (Vec F S256x256 .bf16) :=
  Prog.lift (.load x (Rect.unit (s := S4096x256) off S256x256.size hoff).toLoadRect (View.loadsAt_vmem h_S256x256))

/-- A block of the result: the load the print makes first, then the store. -/
def putOut (d s : Bool) (h : ℕ) (v : FVec F S256x512 .f32) : Prog (TpuEff nD τ sig (Elt F) Λ₀ .tc) PUnit := do
  let _ : Vec F S256x512 .f32 ← Prog.lift (.load out (Rect.unit (s := S4096x2048) (outOff d s v0 h) S256x512.size (outOff_inb d s v0 hw3 h)).toLoadRect (View.loadsAt_vmem h_S256x512))
  Prog.lift (.store out (Rect.unit (s := S4096x2048) (outOff d s v0 h) S256x512.size (outOff_inb d s v0 hw3 h)) v Finset.univ (View.stores_vmem_bits_univ h_S256x512 rfl) (.inl rfl))

/-- The first two operations of a hop: from hop 5 on the wait for send `h - 5`, then the wait for what lands. -/
def arrive (d s : Bool) (h : ℕ) : Prog (TpuEff nD τ sig (Elt F) Λ₀ .tc) PUnit := do
  cond (Nat.ble 5 h) ((ch d s).waitSend (h - 5)) (pure ⟨⟩)
  (ch d s).waitRecv h

/-- A hop of the reduction. -/
def hopReduce (d s : Bool) (h : ℕ) (p : FVec F S256x1024 .f32) : Prog (TpuEff nD τ sig (Elt F) Λ₀ .tc) PUnit := do
  arrive ch d s h
  let v : Vec F S1x256x512 .bf16 ← (ch d s).loadSlot (h + 1)
  let _ : Vec F S1x256x512 .bf16 ← (ch d s).loadSlot (h + 1)
  (ch d s).storeSlot (h + 1) (add1 (truncf .bf16 (summed s p (drop1 v)) bitsLt_bf16_f32))
  (ch d s).send (target v1 v2 hw2 hw1 d) (h + 1)
  cond (Nat.ble 14 h) (putOut out v0 hw3 d s h (summed s p (drop1 v))) (pure ⟨⟩)

/-- A hop of the gather. -/
def hopGather (d s : Bool) (h : ℕ) : Prog (TpuEff nD τ sig (Elt F) Λ₀ .tc) PUnit := do
  arrive ch d s h
  cond (Nat.ble 29 h) (pure ⟨⟩) ((ch d s).send (target v1 v2 hw2 hw1 d) (h + 1))
  let v : Vec F S1x256x512 .bf16 ← (ch d s).loadSlot (h + 1)
  putOut out v0 hw3 d s h (extf .f32 (drop1 v) bitsLt_bf16_f32)

/-- Iteration `h` of the reduction: both products, then the four hops. -/
def iterReduce (wr wl : FVec F S256x1024 .bf16) (h : ℕ) : Prog (TpuEff nD τ sig (Elt F) Λ₀ .tc) PUnit := do
  let xr : Vec F S256x256 .bf16 ← loadX x _ (k0_off2_inb v0 hw3 (xIdx false h))
  let xl : Vec F S256x256 .bf16 ← loadX x _ (k0_off2_inb v0 hw3 (xIdx true h))
  hopReduce out ch v0 v1 v2 hw3 hw2 hw1 false false h (prod wr xr)
  hopReduce out ch v0 v1 v2 hw3 hw2 hw1 true false h (prod wl xl)
  hopReduce out ch v0 v1 v2 hw3 hw2 hw1 false true h (prod wr xr)
  hopReduce out ch v0 v1 v2 hw3 hw2 hw1 true true h (prod wl xl)

/-- Iteration `h` of the gather. -/
def iterGather (h : ℕ) : Prog (TpuEff nD τ sig (Elt F) Λ₀ .tc) PUnit := do
  hopGather out ch v0 v1 v2 hw3 hw2 hw1 false false h
  hopGather out ch v0 v1 v2 hw3 hw2 hw1 true false h
  hopGather out ch v0 v1 v2 hw3 hw2 hw1 false true h
  hopGather out ch v0 v1 v2 hw3 hw2 hw1 true true h

/-- `n` iterations from hop `h` on. -/
def iters (f : ℕ → Prog (TpuEff nD τ sig (Elt F) Λ₀ .tc) PUnit) (n : ℕ) : ℕ → Prog (TpuEff nD τ sig (Elt F) Λ₀ .tc) PUnit :=
  Nat.rec (fun _ => pure ⟨⟩) (fun _ rest h => do f h; rest (h + 1)) n

/-- Slot 0 of both halves of direction `d` filled with the own product. -/
def fill (d : Bool) (wd : FVec F S256x1024 .bf16) : Prog (TpuEff nD τ sig (Elt F) Λ₀ .tc) PUnit := do
  let xv : Vec F S256x256 .bf16 ← loadX x _ (k0_off1_inb v0 hw3)
  let _ : Vec F S1x256x512 .bf16 ← (ch d false).loadSlot 0
  (ch d false).storeSlot 0 (add1 (first false (prod wd xv)))
  let _ : Vec F S1x256x512 .bf16 ← (ch d true).loadSlot 0
  (ch d true).storeSlot 0 (add1 (first true (prod wd xv)))

/-- The last five sends of one channel leave. -/
def drain (d s : Bool) : Prog (TpuEff nD τ sig (Elt F) Λ₀ .tc) PUnit := iters (F := F) (fun h => (ch d s).waitSend h) 5 25

/-- Everything after the device has read its ring position and its two neighbours. -/
def talk : Prog (TpuEff nD τ sig (Elt F) Λ₀ .tc) PUnit := do
  semSignalWord (target v1 v2 hw2 hw1 true) (SemArray.scalar (sig.barrier 0 rfl) : Sems sig S_).sem 1#32
  semSignalWord (target v1 v2 hw2 hw1 false) (SemArray.scalar (sig.barrier 0 rfl) : Sems sig S_).sem 1#32
  semWaitWord (SemArray.scalar (sig.barrier 0 rfl) : Sems sig S_).sem 2#32
  let wr : Vec F S256x1024 .bf16 ← Prog.lift (.load w (Rect.unit (s := S256x2048) ![0, 0] S256x1024.size inb_S256x2048_S256x1024_0_0).toLoadRect (View.loadsAt_vmem h_S256x1024))
  let wl : Vec F S256x1024 .bf16 ← Prog.lift (.load w (Rect.unit (s := S256x2048) ![0, 1024] S256x1024.size inb_S256x2048_S256x1024_0_1024).toLoadRect (View.loadsAt_vmem h_S256x1024))
  fill x ch v0 hw3 false (shapeCast S256x1024 wr shapeCasts_S256x1024_S256x1024)
  fill x ch v0 hw3 true (shapeCast S256x1024 wl shapeCasts_S256x1024_S256x1024)
  (ch false false).send (target v1 v2 hw2 hw1 false) 0
  (ch false true).send (target v1 v2 hw2 hw1 false) 0
  (ch true false).send (target v1 v2 hw2 hw1 true) 0
  (ch true true).send (target v1 v2 hw2 hw1 true) 0
  iters (iterReduce x out ch v0 v1 v2 hw3 hw2 hw1 (shapeCast S256x1024 wr shapeCasts_S256x1024_S256x1024) (shapeCast S256x1024 wl shapeCasts_S256x1024_S256x1024)) 15 0
  iters (iterGather out ch v0 v1 v2 hw3 hw2 hw1) 15 15
  drain ch false false
  drain ch false true
  drain ch true false
  drain ch true true

end Hops

/-- The whole body: the three words, each checked, then `talk`. -/
def bodyText (x : Memref sig .tc .vmem S4096x256 .bf16) (w : Memref sig .tc .vmem S256x2048 .bf16) (kr rr lr : Memref sig .tc .smem S1 .i32)
    (out : Memref sig .tc .vmem S4096x2048 .f32) (ch : Bool → Bool → Chan) : Prog (TpuEff nD τ sig (Elt F) Λ₀ .tc) PUnit := do
  let v0 : Elt F .i32 ← smemLoad kr (Rect.unit (s := S1) ![0] S1.size inb_S1_S1_0) numel1_S1 rfl
  let hw3 ← Prog.lift (TpuEff.assume (k0_chk3 v0) (k0_chk3.dec v0))
  let v1 : Elt F .i32 ← smemLoad rr (Rect.unit (s := S1) ![0] S1.size inb_S1_S1_0) numel1_S1 rfl
  let hw2 ← Prog.lift (TpuEff.assume (k0_chk2 v1) (k0_chk2.dec v1))
  let v2 : Elt F .i32 ← smemLoad lr (Rect.unit (s := S1) ![0] S1.size inb_S1_S1_0) numel1_S1 rfl
  let hw1 ← Prog.lift (TpuEff.assume (k0_chk1 v2) (k0_chk1.dec v2))
  talk x w out ch v0 v1 v2 hw3.down hw2.down hw1.down

/-- The four channels over the printed function's arguments. -/
def chans (C00 C01 C10 C11 : Chan) : Bool → Bool → Chan := fun d s => cond d (cond s C11 C10) (cond s C01 C00)

set_option maxRecDepth 65536 in
/-- The printed body is the text above. -/
theorem body_text (arg0 : Memref sig .tc .vmem S4096x256 .bf16) (harg0 : arg0.IsWhole) (arg1 : Memref sig .tc .vmem S256x2048 .bf16) (harg1 : arg1.IsWhole)
    (arg2 : Memref sig .tc .smem S1 .i32) (harg2 : arg2.IsWhole) (arg3 : Memref sig .tc .smem S1 .i32) (harg3 : arg3.IsWhole) (arg4 : Memref sig .tc .smem S1 .i32) (harg4 : arg4.IsWhole)
    (arg5 : Memref sig .tc .vmem S4096x2048 .f32) (harg5 : arg5.IsWhole)
    (arg6 : Memref sig .tc .vmem S6x256x512 .bf16) (harg6 : arg6.IsWhole) (arg7 arg8 : DmaSems sig S6)
    (arg9 : Memref sig .tc .vmem S6x256x512 .bf16) (harg9 : arg9.IsWhole) (arg10 arg11 : DmaSems sig S6)
    (arg12 : Memref sig .tc .vmem S6x256x512 .bf16) (harg12 : arg12.IsWhole) (arg13 arg14 : DmaSems sig S6)
    (arg15 : Memref sig .tc .vmem S6x256x512 .bf16) (harg15 : arg15.IsWhole) (arg16 arg17 : DmaSems sig S6) :
    cc0_body (F := F) arg0 harg0 arg1 harg1 arg2 harg2 arg3 harg3 arg4 harg4 arg5 harg5 arg6 harg6 arg7 arg8 arg9 harg9 arg10 arg11 arg12 harg12 arg13 arg14 arg15 harg15 arg16 arg17
      = bodyText arg0 arg1 arg2 arg3 arg4 arg5 (chans ⟨arg6, harg6, arg7, arg8⟩ ⟨arg9, harg9, arg10, arg11⟩ ⟨arg12, harg12, arg13, arg14⟩ ⟨arg15, harg15, arg16, arg17⟩) := by
  sl_kernel_rfl

end Cert.Ring16

end
-- ==== Proof.Ring16.Cells.lean ====
/-
  The protocol of the ring: who sends to whom, the semaphores of the four channels, and what every landing hands over.

  Message `n` of channel `(d, s)` goes from slot `n % 6` of a device into slot `(n + 1) % 6` of the next device in direction
  `d`. It signals receive semaphore `(n + 1) % 6` there (round `n / 6`) and send semaphore `n % 6` here (round `n / 6`).
  A receiver of message `n` gets

    * the slot it fills, at the message;
    * half of the slot it came from (up to `n = 24`), at contents that no one uses: the sender has the other half, and both
      together are needed before the slot is filled again;
    * that half back which the receiver's own message `n - 2` of the opposite direction left with its receiver;
    * the slot that its own message `n + 2` of the opposite direction will fill.

  The message itself is `msg d s n c`, what device `c` sends; the protocol does not say how it is computed.
-/
module

public import proofs.«01_k».proof.Proof.Ring16.Text
public import proofs.«01_k».proof.Proof.Gen.KernelIdeal.Launch
public import proofs.«01_k».proof.Proof.Gen.KernelIdeal.Points
public import Idealize.ShloMosaic.Lib.Pipeline.RegionTalk
public import Idealize.ShloMosaic.Lib.Ring.FamCut

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The ring -/

/-- The next device in direction `d`: forward (`false`) or backward (`true`) along the ring
    0, 1, 5, 9, 13, 14, 10, 6, 2, 3, 7, 11, 15, 12, 8, 4. -/
def tgt (d : Bool) (c : Dev nD) : Dev nD :=
  cond d ((![4, 0, 6, 2, 8, 1, 10, 3, 12, 5, 14, 7, 15, 9, 13, 11] : Fin 16 → Fin 16) c)
    ((![1, 5, 3, 7, 0, 9, 2, 11, 4, 13, 6, 15, 8, 14, 10, 12] : Fin 16 → Fin 16) c)

/-- The device whose messages in direction `d` arrive here. -/
abbrev src (d : Bool) (c : Dev nD) : Dev nD := tgt (!d) c

theorem src_tgt (d : Bool) (c : Dev nD) : src d (tgt d c) = c := by revert d c; decide
theorem tgt_src (d : Bool) (c : Dev nD) : tgt d (src d c) = c := by revert d c; decide

/-- A device's place on the ring. -/
def pos (c : Dev nD) : ℕ := (![0, 1, 8, 9, 15, 2, 7, 10, 14, 3, 6, 11, 13, 4, 5, 12] : Fin 16 → ℕ) c

/-! ## The channels and their semaphores -/

/-- The four channels of the kernel. -/
abbrev chs : Bool → Bool → Chan :=
  chans ⟨Memref.whole cc0_scratch0, Memref.isWhole_whole _, cc0_scratch1, cc0_scratch2⟩ ⟨Memref.whole cc0_scratch3, Memref.isWhole_whole _, cc0_scratch4, cc0_scratch5⟩
    ⟨Memref.whole cc0_scratch6, Memref.isWhole_whole _, cc0_scratch7, cc0_scratch8⟩ ⟨Memref.whole cc0_scratch9, Memref.isWhole_whole _, cc0_scratch10, cc0_scratch11⟩

/-- The number of channel `(d, s)`. -/
def chNo (d s : Bool) : ℕ := cond d (cond s 3 2) (cond s 1 0)
theorem chNo_lt (d s : Bool) : chNo d s < 4 := by cases d <;> cases s <;> decide

theorem snd_lt (d s : Bool) (h : ℕ) : 6 + 12 * chNo d s + h % 6 < sig.nDmaSem := by
  have := chNo_lt d s
  show _ < 54; omega
theorem rcv_lt (d s : Bool) (h : ℕ) : 12 + 12 * chNo d s + h % 6 < sig.nDmaSem := by
  have := chNo_lt d s
  show _ < 54; omega

/-- Element `j` of six consecutive semaphores. -/
theorem six_sem (base : ℕ) (hb : base + S6.numel ≤ 54) {j : ℕ} (hj : j < 6) (hr) :
    ((((SemArray.consecutive base S6 hb).slice (Rect.unit (s := S6) ![j] S1.size hr)).squeeze S_ squeezes_S1_S_).sem : Fin 54).val = base + j := by
  show base + (S6.rowMajor ((Rect.unit (s := S6) ![j] S1.size hr).emb _)).val = _
  rw [Shape.rowMajor_val_one, Rect.emb_apply]
  have h1 : ∀ i : Fin 1, base + (j + 1 * i.val) = base + j := by intro i; omega
  exact h1 _

theorem sndSem_eq (d s : Bool) (h : ℕ) : (chs d s).sndSem h = ⟨6 + 12 * chNo d s + h % 6, snd_lt d s h⟩ := by
  cases d <;> cases s <;> exact Fin.ext (six_sem _ (by decide) (Nat.mod_lt _ (by decide)) _)

theorem rcvSem_eq (d s : Bool) (h : ℕ) : (chs d s).rcvSem h = ⟨12 + 12 * chNo d s + h % 6, rcv_lt d s h⟩ := by
  cases d <;> cases s <;> exact Fin.ext (six_sem _ (by decide) (Nat.mod_lt _ (by decide)) _)

/-- Slots repeat after six. -/
theorem slot_congr (C : Chan) {i j : ℕ} (h : i % 6 = j % 6) : C.slot i = C.slot j := by
  have key : ∀ (a b : ℕ) (ha hb), a = b →
      (C.buf.slice (Rect.unit (s := S6x256x512) ![a, 0, 0] S1x256x512.size ha) (fun _ => rfl)).squeeze S256x512 squeezes_S1x256x512_S256x512
        = (C.buf.slice (Rect.unit (s := S6x256x512) ![b, 0, 0] S1x256x512.size hb) (fun _ => rfl)).squeeze S256x512 squeezes_S1x256x512_S256x512 := by
    rintro a b ha hb rfl; rfl
  exact key _ _ _ _ h

/-- The barrier semaphore of device `c`. -/
abbrev barSem : Sem sig := (SemArray.scalar (sig.barrier 0 rfl) : Sems sig S_).sem
abbrev barCell (c : Dev nD) : GSem nD τ sig := ((c : Thread nD τ), .reg barSem)
/-- The semaphore device `c`'s send `m` signals when it has left, and the one its neighbour's message `n` signals. -/
abbrev sc (d s : Bool) (c : Dev nD) (m : ℕ) : GSem nD τ sig := ((c : Thread nD τ), .dma ((chs d s).sndSem m))
abbrev rc (d s : Bool) (c : Dev nD) (n : ℕ) : GSem nD τ sig := ((c : Thread nD τ), .dma ((chs d s).rcvSem (n + 1)))

theorem sc_congr (d s : Bool) (c : Dev nD) {i j : ℕ} (h : i % 6 = j % 6) : sc d s c i = sc d s c j := by
  dsimp only [sc]; rw [sndSem_eq, sndSem_eq]; simp only [h]
theorem rc_congr (d s : Bool) (c : Dev nD) {i j : ℕ} (h : (i + 1) % 6 = (j + 1) % 6) : rc d s c i = rc d s c j := by
  dsimp only [rc]; rw [rcvSem_eq, rcvSem_eq]; simp only [h]

/-- What one transfer of a slot is counted as. -/
abbrev N : ℕ := ((chs false false).slot 0).view.dmaCredit
theorem N_pos : 0 < N := View.dmaCredit_pos _ (by decide)
theorem slot_credit (d s : Bool) (h : ℕ) : ((chs d s).slot h).view.dmaCredit = N := by cases d <;> cases s <;> rfl

/-! ## The resource algebra -/

/-- The pipeline library's copy, and the protocol's, whose duties are named by a direction. -/
abbrev UB : Type := Rounds.URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- `P` if `p` holds, nothing otherwise. -/
def opt (p : Prop) [Decidable p] (P : sProp 𝕄) : sProp 𝕄 := if p then P else iprop(emp)

theorem opt_pos {p : Prop} [Decidable p] (h : p) (P : sProp 𝕄) : opt p P = P := if_pos h
theorem opt_neg {p : Prop} [Decidable p] (h : ¬ p) (P : sProp 𝕄) : opt p P = iprop(emp) := if_neg h

instance opt_storable (p : Prop) [Decidable p] (P : sProp 𝕄) [BI.Storable (upEmb : UEmb _ 𝕄) P] : BI.Storable (upEmb : UEmb _ 𝕄) (opt p P) := by
  unfold opt; split <;> infer_instance

abbrev Lh : PosShare TreeShare := (fullShare : PosShare TreeShare).left
abbrev Rh : PosShare TreeShare := (fullShare : PosShare TreeShare).right

/-! ## What is handed over -/

/-- Slot `j` of device `c`'s channel `(d, s)` at `X`, and at contents no one names. -/
abbrev slotAt (d s : Bool) (c : Dev nD) (j : ℕ) (q : PosShare TreeShare) (X : FVec F S256x512 .bf16) : sProp 𝕄 :=
  owns (Val := Elt F) (c : Thread nD τ) ((chs d s).slot j) q X
def slotAny (d s : Bool) (c : Dev nD) (j : ℕ) (q : PosShare TreeShare) : sProp 𝕄 := iprop(∃ X, slotAt d s c j q X)

instance slotAny_storable (d s : Bool) (c : Dev nD) (j : ℕ) (q : PosShare TreeShare) : BI.Storable (upEmb : UEmb _ 𝕄) (slotAny (F := F) d s c j q) := by
  unfold slotAny; infer_instance

/-- The slot that device `c`'s message `m` will fill, and that its semaphore there has come to the round. -/
def dst (d s : Bool) (m : ℕ) (c : Dev nD) : sProp 𝕄 :=
  iprop(slotAny d s (tgt d c) (m + 1) fullShare ∗ reached ER (rc d s (tgt d c) m) (m / 6))

instance dst_storable (d s : Bool) (m : ℕ) (c : Dev nD) : BI.Storable (upEmb : UEmb _ 𝕄) (dst (F := F) d s m c) := by
  unfold dst; infer_instance

variable (msg : Bool → Bool → ℕ → Dev nD → FVec F S256x512 .bf16)

/-- What device `c` gets with the message `n` it receives. -/
def rcvPay (d s : Bool) (n : ℕ) (c : Dev nD) : sProp 𝕄 :=
  iprop(slotAt d s c (n + 1) fullShare (msg d s n (src d c))
    ∗ opt (n ≤ 24) (slotAny d s (src d c) n Lh)
    ∗ opt (2 ≤ n ∧ n ≤ 26) (slotAny (!d) s c (n - 2) Lh)
    ∗ opt (3 ≤ n ∧ n ≤ 27) (dst (!d) s (n + 2) c))

/-- What it gets when its own message `m` has left. -/
def sndPay (d s : Bool) (m : ℕ) (c : Dev nD) : sProp 𝕄 := opt (25 ≤ m) (slotAny d s c m Lh)

/-- What it gets at the barrier from its neighbour in direction `d`: the first five slots it will fill there. -/
def barPay (d : Bool) (c : Dev nD) : sProp 𝕄 :=
  bigSep (Finset.range 5) (fun m => iprop(dst d false m c ∗ dst d true m c))

instance rcvPay_storable (d s : Bool) (n : ℕ) (c : Dev nD) : BI.Storable (upEmb : UEmb _ 𝕄) (rcvPay msg d s n c) := by
  unfold rcvPay; infer_instance
instance sndPay_storable (d s : Bool) (m : ℕ) (c : Dev nD) : BI.Storable (upEmb : UEmb _ 𝕄) (sndPay (F := F) d s m c) := by
  unfold sndPay; infer_instance
instance barPay_storable (d : Bool) (c : Dev nD) : BI.Storable (upEmb : UEmb _ 𝕄) (barPay (F := F) d c) := by
  unfold barPay; infer_instance

/-! ## The schedule -/

/-- The channel a semaphore number belongs to. -/
def dOf (i : ℕ) : Bool := decide (24 ≤ i - 6)
def sOf (i : ℕ) : Bool := decide (12 ≤ (i - 6) % 24)

/-- What round `r` of a cell hands over. -/
def pay (g : GSem nD τ sig) (r : ℕ) (b : Bool) : sProp 𝕄 :=
  match g.2 with
  | .reg _ => barPay b g.1.1
  | .dma i => if (i.val - 6) % 12 < 6 then sndPay (dOf i.val) (sOf i.val) (6 * r + (i.val - 6) % 12) g.1.1
      else rcvPay msg (dOf i.val) (sOf i.val) (6 * r + ((i.val - 6) % 12 + 5) % 6) g.1.1

instance pay_storable (g : GSem nD τ sig) (r : ℕ) (b : Bool) : BI.Storable (upEmb : UEmb _ 𝕄) (pay msg g r b) := by
  unfold pay; split
  · infer_instance
  · split <;> infer_instance

/-- Round 0 of a barrier semaphore has one duty per neighbour; rounds 0 to 4 of a channel's semaphores have one each. -/
def Rd : Rounds.Schedule (GSem nD τ sig) Bool 𝕄 where
  duties g r := match g.2 with
    | .reg _ => if g.1.2 = .tc ∧ r = 0 then Finset.univ else ∅
    | .dma i => if g.1.2 = .tc ∧ 6 ≤ i.val ∧ r < 5 then {false} else ∅
  unitless _ := False
  amount g _ _ := match g.2 with
    | .reg _ => 1
    | .dma _ => N
  payload g r b := pay msg g r b
  amount_pos g _ _ _ := by
    obtain ⟨t, sm⟩ := g
    cases sm with
    | reg _ => exact Nat.one_pos
    | dma _ => exact N_pos

instance Rd_storable (g : GSem nD τ sig) (r : ℕ) (b : Bool) : BI.Storable (upEmb : UEmb _ 𝕄) ((Rd (F := F) msg).payload g r b) :=
  pay_storable msg g r b

theorem duties_bar (c : Dev nD) : (Rd (F := F) msg).duties (barCell c) 0 = Finset.univ := by
  dsimp only [Rd]; exact if_pos ⟨rfl, rfl⟩
theorem duties_sc (d s : Bool) (c : Dev nD) {m : ℕ} (hm : m < 30) : (Rd (F := F) msg).duties (sc d s c m) (m / 6) = {false} := by
  rw [sc, sndSem_eq]; exact if_pos ⟨rfl, by dsimp only; omega, by omega⟩
theorem duties_rc (d s : Bool) (c : Dev nD) {n : ℕ} (hn : n < 30) : (Rd (F := F) msg).duties (rc d s c n) (n / 6) = {false} := by
  rw [rc, rcvSem_eq]; exact if_pos ⟨rfl, by dsimp only; omega, by omega⟩
theorem duties_later (g : GSem nD τ sig) : ∀ r, 5 ≤ r → (Rd (F := F) msg).duties g r = ∅ := by
  intro r hr
  obtain ⟨t, sm⟩ := g
  cases sm with
  | reg _ => exact if_neg fun h => by omega
  | dma _ => exact if_neg fun h => by omega
theorem duties_bar_later (c : Dev nD) : ∀ r, 1 ≤ r → (Rd (F := F) msg).duties (barCell c) r = ∅ := by
  intro r hr
  exact if_neg fun h => by omega

theorem expect_bar (c : Dev nD) : (Rd (F := F) msg).expect (barCell c) 0 = 2 := by
  unfold Schedule.expect Schedule.amountOf; rw [duties_bar]; rfl
theorem expect_sc (d s : Bool) (c : Dev nD) {m : ℕ} (hm : m < 30) : (Rd (F := F) msg).expect (sc d s c m) (m / 6) = N := by
  unfold Schedule.expect Schedule.amountOf; rw [duties_sc msg d s c hm, Finset.sum_singleton]; rfl
theorem expect_rc (d s : Bool) (c : Dev nD) {n : ℕ} (hn : n < 30) : (Rd (F := F) msg).expect (rc d s c n) (n / 6) = N := by
  unfold Schedule.expect Schedule.amountOf; rw [duties_rc msg d s c hn, Finset.sum_singleton]; rfl

theorem payload_bar (c : Dev nD) (b : Bool) : (Rd (F := F) msg).payload (barCell c) 0 b = barPay b c := rfl
theorem payload_sc (d s : Bool) (c : Dev nD) (m : ℕ) (b : Bool) : (Rd (F := F) msg).payload (sc d s c m) (m / 6) b = sndPay d s m c := by
  rw [sc, sndSem_eq]
  have h1 : (6 + 12 * chNo d s + m % 6 - 6) % 12 < 6 := by omega
  have h2 : dOf (6 + 12 * chNo d s + m % 6) = d := by
    have : m % 6 < 6 := Nat.mod_lt _ (by decide)
    cases d <;> cases s <;> first
      | exact decide_eq_true (by simp only [chNo, cond_true, cond_false]; omega)
      | exact decide_eq_false (by simp only [chNo, cond_true, cond_false]; omega)
  have h3 : sOf (6 + 12 * chNo d s + m % 6) = s := by
    have : m % 6 < 6 := Nat.mod_lt _ (by decide)
    cases d <;> cases s <;> first
      | exact decide_eq_true (by simp only [chNo, cond_true, cond_false]; omega)
      | exact decide_eq_false (by simp only [chNo, cond_true, cond_false]; omega)
  have h4 : 6 * (m / 6) + (6 + 12 * chNo d s + m % 6 - 6) % 12 = m := by omega
  show (if _ then _ else _) = _
  dsimp only
  rw [if_pos h1, h2, h3, h4]
theorem payload_rc (d s : Bool) (c : Dev nD) (n : ℕ) (b : Bool) : (Rd (F := F) msg).payload (rc d s c n) (n / 6) b = rcvPay msg d s n c := by
  rw [rc, rcvSem_eq]
  have h1 : ¬ (12 + 12 * chNo d s + (n + 1) % 6 - 6) % 12 < 6 := by omega
  have h2 : dOf (12 + 12 * chNo d s + (n + 1) % 6) = d := by
    have : (n + 1) % 6 < 6 := Nat.mod_lt _ (by decide)
    cases d <;> cases s <;> first
      | exact decide_eq_true (by simp only [chNo, cond_true, cond_false]; omega)
      | exact decide_eq_false (by simp only [chNo, cond_true, cond_false]; omega)
  have h3 : sOf (12 + 12 * chNo d s + (n + 1) % 6) = s := by
    have : (n + 1) % 6 < 6 := Nat.mod_lt _ (by decide)
    cases d <;> cases s <;> first
      | exact decide_eq_true (by simp only [chNo, cond_true, cond_false]; omega)
      | exact decide_eq_false (by simp only [chNo, cond_true, cond_false]; omega)
  have h4 : 6 * (n / 6) + ((12 + 12 * chNo d s + (n + 1) % 6 - 6) % 12 + 5) % 6 = n := by omega
  show (if _ then _ else _) = _
  dsimp only
  rw [if_neg h1, h2, h3, h4]

theorem rest_bar (c : Dev nD) : bigSep ((Rd (F := F) msg).duties (barCell c) 0 \ ∅) (fun u => (Rd (F := F) msg).payload (barCell c) 0 u)
    = iprop(barPay (F := F) true c ∗ barPay (F := F) false c) := by
  rw [Finset.sdiff_empty, duties_bar, show (Finset.univ : Finset Bool) = {true, false} from rfl, bigSep_insert (by decide), bigSep_singleton]
  rfl
theorem rest_sc (d s : Bool) (c : Dev nD) {m : ℕ} (hm : m < 30) :
    bigSep ((Rd (F := F) msg).duties (sc d s c m) (m / 6) \ ∅) (fun u => (Rd (F := F) msg).payload (sc d s c m) (m / 6) u) = sndPay d s m c := by
  rw [Finset.sdiff_empty, duties_sc msg d s c hm, bigSep_singleton, payload_sc]
theorem rest_rc (d s : Bool) (c : Dev nD) {n : ℕ} (hn : n < 30) :
    bigSep ((Rd (F := F) msg).duties (rc d s c n) (n / 6) \ ∅) (fun u => (Rd (F := F) msg).payload (rc d s c n) (n / 6) u) = rcvPay msg d s n c := by
  rw [Finset.sdiff_empty, duties_rc msg d s c hn, bigSep_singleton, payload_rc]

/-! ## Levels -/

/-- The names a wait may go by: the number of the message received, 0 for the rest. -/
def L (g : GSem nD τ sig) : Finset ℕ := if g.1.2 = .tc then Finset.range 30 else ∅
/-- The barrier at level 1, message `n` at level `2 + n`, the rest at 0. -/
def lv (g : GSem nD τ sig) (i : ℕ) : ℕ := match g.2 with
  | .reg _ => 1
  | .dma k => if 6 ≤ k.val ∧ 6 ≤ (k.val - 6) % 12 then 2 + i else 0

theorem L_of_ne (g : GSem nD τ sig) (h : g.1.2 ≠ .tc) : L g = ∅ := if_neg h
theorem mem_L (c : Dev nD) (sm : SemLoc sig) {i : ℕ} (h : i < 30) : i ∈ L ((c : Thread nD τ), sm) := by
  rw [L, if_pos rfl]; exact Finset.mem_range.mpr h
theorem lv_bar (c : Dev nD) (i : ℕ) : lv (barCell c) i = 1 := rfl
theorem lv_sc (d s : Bool) (c : Dev nD) (m i : ℕ) : lv (sc d s c m) i = 0 := by
  rw [sc, sndSem_eq]; exact if_neg fun h => by dsimp only at h; omega
theorem lv_rc (d s : Bool) (c : Dev nD) (n i : ℕ) : lv (rc d s c n) i = 2 + i := by
  rw [rc, rcvSem_eq]; exact if_pos ⟨by dsimp only; omega, by dsimp only; omega⟩

/-- Everything owed in `O` is owed above level `k`. -/
def Above (k : ℕ) (O : CellTallies nD τ sig ℕ) : Prop := ∀ g i, 0 < O g i → i ∈ L g ∧ k < lv g i

theorem Above.mono {k k' : ℕ} (h : k' ≤ k) {O : CellTallies nD τ sig ℕ} (hO : Above k O) : Above k' O :=
  fun g i hg => ⟨(hO g i hg).1, lt_of_le_of_lt h (hO g i hg).2⟩
theorem Above.add {k : ℕ} {O O' : CellTallies nD τ sig ℕ} (hO : Above k O) (hO' : Above k O') : Above k (O + O') := by
  intro g i hg
  rcases Nat.eq_zero_or_pos (O g i) with h | h
  · refine hO' g i ?_
    have : (O + O') g i = O g i + O' g i := rfl
    omega
  · exact hO g i h
theorem Above.zero (k : ℕ) : Above k (0 : CellTallies nD τ sig ℕ) := fun g i hg => absurd hg (Nat.lt_irrefl 0)
theorem Above.rc (d s : Bool) (c : Dev nD) {k n : ℕ} (hn : n < 30) (h : k < 2 + n) : Above k (tallyAt (rc d s c n) n N) := by
  intro g i hg
  rw [tallyAt_apply] at hg
  by_cases hh : g = Cert.Ring16.rc d s c n ∧ i = n
  · obtain ⟨rfl, rfl⟩ := hh
    exact ⟨mem_L c _ hn, by rw [lv_rc]; exact h⟩
  · rw [if_neg hh] at hg; exact absurd hg (Nat.lt_irrefl 0)
theorem Above.bar (c : Dev nD) {k : ℕ} (h : k < 1) : Above k (tallyAt (barCell c) 0 1) := by
  intro g i hg
  rw [tallyAt_apply] at hg
  by_cases hh : g = barCell c ∧ i = 0
  · obtain ⟨rfl, rfl⟩ := hh
    exact ⟨mem_L c _ (by decide), h⟩
  · rw [if_neg hh] at hg; exact absurd hg (Nat.lt_irrefl 0)

theorem mayWait (c : Dev nD) (sm : SemLoc sig) (i : ℕ) (hi : i < 30) {k : ℕ} (hk : lv ((c : Thread nD τ), sm) i ≤ k)
    {O : CellTallies nD τ sig ℕ} (hO : Above k O) :
    (levAts L lv : sProp 𝕄) ⊢ MayWait (c : Thread nD τ) sm i O :=
  MayOwe.of_cut (L := L) (lev := lv) k (fun p hp => by rw [Finset.mem_singleton.mp hp]; exact mem_L c sm hi)
    (fun g u hg => (hO g u hg).1)
    (fun p hp => by rw [Finset.mem_singleton.mp hp]; exact hk)
    (fun g u hg => (hO g u hg).2)

end Cert.Ring16

end
-- ==== Proof.Ring16.Cmds.lean ====
/-
  What each operation of a hop does to the state of the protocol.
-/
module

public import proofs.«01_k».proof.Proof.Ring16.Cells
public import Idealize.ShloMosaic.Lib.MemrefSat
public import Idealize.ShloMosaic.Lib.Pipeline.Value

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

abbrev 𝒱₀ : Variants := Variants.none

/-- A program of device `c` run from here on. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p (fun v => WP c (k v) Q) := wp_bind ..

theorem WP_pure {α : Type} (c : Dev nD) (a : α) (Q : α → sProp 𝕄) : Q a ⊢ WP c (pure a) Q := by
  show _ ⊢ wp _ _ _ (.ret a) _
  rw [wp_ret]
  iintro H; imodintro; iexact H

/-! ## The cells -/

/-- Semaphore `6 + k` of device `c`: one of the 48 of the channels. -/
def chLoc (k : Fin 48) : SemLoc sig := .dma ⟨6 + k.val, by have := k.isLt; show _ < 54; omega⟩
theorem chLoc_inj : Function.Injective chLoc := by
  intro a b h
  have h1 : (⟨6 + a.val, by have := a.isLt; show _ < 54; omega⟩ : DmaSem sig) = ⟨6 + b.val, by have := b.isLt; show _ < 54; omega⟩ := by
    injection h
  have h2 := congrArg Fin.val h1
  dsimp only at h2
  exact Fin.ext (by omega)

def barEmb : Dev nD ↪ GSem nD τ sig := ⟨fun c => barCell c, fun _ _ h => congrArg (fun g : GSem nD τ sig => g.1.1) h⟩
def chEmb : Dev nD × Fin 48 ↪ GSem nD τ sig :=
  ⟨fun ck => ((ck.1 : Thread nD τ), chLoc ck.2), fun _ _ h =>
    Prod.ext (congrArg (fun g : GSem nD τ sig => g.1.1) h) (chLoc_inj (congrArg Prod.snd h))⟩

abbrev barCells : Finset (GSem nD τ sig) := Finset.univ.map barEmb
abbrev chCells : Finset (GSem nD τ sig) := Finset.univ.map chEmb

theorem bar_mem (c : Dev nD) : barCell c ∈ (barCells ∪ chCells : Finset (GSem nD τ sig)) :=
  Finset.mem_union_left _ (Finset.mem_map_of_mem barEmb (Finset.mem_univ c))
theorem sc_ch (d s : Bool) (c : Dev nD) (m : ℕ) :
    sc d s c m = chEmb (c, ⟨12 * chNo d s + m % 6, by have := chNo_lt d s; omega⟩) := by
  dsimp only [sc]; rw [sndSem_eq]
  refine Prod.ext rfl (congrArg SemLoc.dma (Fin.ext ?_))
  dsimp only; omega
theorem rc_ch (d s : Bool) (c : Dev nD) (n : ℕ) :
    rc d s c n = chEmb (c, ⟨6 + 12 * chNo d s + (n + 1) % 6, by have := chNo_lt d s; omega⟩) := by
  dsimp only [rc]; rw [rcvSem_eq]
  refine Prod.ext rfl (congrArg SemLoc.dma (Fin.ext ?_))
  dsimp only; omega
theorem sc_mem (d s : Bool) (c : Dev nD) (m : ℕ) : sc d s c m ∈ (barCells ∪ chCells : Finset (GSem nD τ sig)) := by
  rw [sc_ch]; exact Finset.mem_union_right _ (Finset.mem_map_of_mem chEmb (Finset.mem_univ _))
theorem rc_mem (d s : Bool) (c : Dev nD) (n : ℕ) : rc d s c n ∈ (barCells ∪ chCells : Finset (GSem nD τ sig)) := by
  rw [rc_ch]; exact Finset.mem_union_right _ (Finset.mem_map_of_mem chEmb (Finset.mem_univ _))

variable (msg : Bool → Bool → ℕ → Dev nD → FVec F S256x512 .bf16) (K : GSem nD τ sig → ℕ)

/-- What every device may consult: the invariant of every cell, and the levels. -/
def ctx : sProp 𝕄 :=
  iprop((bigSep (barCells ∪ chCells) fun g => cellInv ER (Rd msg) (K g) g) ∗ (bigSep barCells fun g => reached ER g 0) ∗ levAts L lv)

instance ctx_persistent : BI.Persistent (ctx msg K) := by unfold ctx; infer_instance

theorem inv_at {g : GSem nD τ sig} (hg : g ∈ (barCells ∪ chCells : Finset (GSem nD τ sig))) :
    (bigSep (barCells ∪ chCells) fun g => (cellInv ER (Rd msg) (K g) g : sProp 𝕄)) ⊢ cellInv ER (Rd msg) (K g) g := bigSep_elim hg
theorem reached_at (c : Dev nD) : (bigSep barCells fun g => (reached ER g 0 : sProp 𝕄)) ⊢ reached ER (barCell c) 0 :=
  bigSep_elim (Finset.mem_map_of_mem barEmb (Finset.mem_univ c))

theorem ctx_inv {g : GSem nD τ sig} (hg : g ∈ (barCells ∪ chCells : Finset (GSem nD τ sig))) : ctx msg K ⊢ cellInv ER (Rd msg) (K g) g := by
  unfold ctx
  iintro ⟨#H, -, -⟩
  iapply (inv_at msg K hg); iexact H
theorem ctx_reached (c : Dev nD) : ctx msg K ⊢ reached ER (barCell c) 0 := by
  unfold ctx
  iintro ⟨-, #H, -⟩
  iapply (reached_at (F := F) c); iexact H
/-- The owner's place on a cell: at the start of round `r`. -/
def posn (g : GSem nD τ sig) (r : ℕ) : sProp 𝕄 := iprop(atPos ER g r ∅ 0 ∗ reached ER g r)

/-- What device `c` owes, whatever it has waited for. -/
def owing (c : Dev nD) (O : CellTallies nD τ sig ℕ) : sProp 𝕄 := iprop(∃ W, owes (c : Thread nD τ) O W)

/-! ## Waits -/

theorem waitRecv_spec (d s : Bool) (c : Dev nD) {n : ℕ} (hn : n < 30) {O : CellTallies nD τ sig ℕ} (hO : Above (2 + n) O) (Q : PUnit → sProp 𝕄) :
    iprop(ctx msg K ∗ posn (rc d s c n) (n / 6) ∗ cred (tallyAt (rc d s c n) n N) ∗ owing c O
        ∗ (posn (rc d s c (n + 6)) ((n + 6) / 6) ∗ rcvPay msg d s n c ∗ owing c O -∗ Q ⟨⟩))
      ⊢ WP c ((chs d s).waitRecv n) Q := by
  unfold ctx posn owing Chan.waitRecv
  iintro ⟨⟨#HI, -, #Hlev⟩, ⟨Hat, -⟩, Hc, ⟨%W, HO⟩, Hk⟩
  iapply (Rounds.wp_wait_rest_token 𝒱₀ ER (Rd msg) (c : Thread nD τ) none (κ := K (rc d s c n)) (Es := Set.univ)
      (w := .waitDma2 ((chs d s).rcvSem (n + 1)) ((chs d s).slot n) ((chs d s).slot (n + 1)) ((chs d s).slot_exact n) ((chs d s).slot_exact (n + 1)))
      (sm := .dma ((chs d s).rcvSem (n + 1))) (k' := N)
      (fun K' => (wpE_waitDma2_eq 𝒱₀ (c : Thread nD τ) none Set.univ K').trans (congrArg (fun k => waitSpec (c : Thread nD τ) Set.univ _ k K') (slot_credit d s _)))
      (Set.mem_univ _) n (O := O) (W := W) (R := n / 6) (m := 0) (T := ∅) ((Nat.zero_add _).trans (expect_rc msg d s c hn).symm)) $$ [Hc HO Hat]
  · isplitr; · iapply (inv_at msg K (rc_mem d s c n)); iexact HI
    isplitl [Hc]; · iexact Hc
    isplitl [HO]; · iexact HO
    isplitr
    · have h1 : lv (rc d s c n) n ≤ 2 + n := Nat.le_of_eq (lv_rc d s c n n)
      have h2 := mayWait (F := F) c (.dma ((chs d s).rcvSem (n + 1))) n hn h1 hO
      iapply h2; iexact Hlev
    iexact Hat
  iintro ⟨HO, Hat, Hr, Hpay⟩
  ihave Hpay := (Entails.of_eq (rest_rc msg d s c hn)) $$ Hpay
  rw [wp_ret]; imodintro
  iapply Hk
  rw [rc_congr d s c (i := n + 6) (j := n) (by omega), show (n + 6) / 6 = n / 6 + 1 by omega]
  isplitl [Hat Hr]; · isplitl [Hat] <;> iassumption
  isplitl [Hpay]; · iexact Hpay
  iexists _; iexact HO

theorem waitSend_spec (d s : Bool) (c : Dev nD) {m : ℕ} (hm : m < 30) {k : ℕ} {O : CellTallies nD τ sig ℕ} (hO : Above k O) (Q : PUnit → sProp 𝕄) :
    iprop(ctx msg K ∗ posn (sc d s c m) (m / 6) ∗ cred (tallyAt (sc d s c m) 0 N) ∗ owing c O
        ∗ (posn (sc d s c (m + 6)) ((m + 6) / 6) ∗ sndPay d s m c ∗ owing c O -∗ Q ⟨⟩))
      ⊢ WP c ((chs d s).waitSend m) Q := by
  unfold ctx posn owing Chan.waitSend
  iintro ⟨⟨#HI, -, #Hlev⟩, ⟨Hat, -⟩, Hc, ⟨%W, HO⟩, Hk⟩
  iapply (Rounds.wp_wait_rest_token 𝒱₀ ER (Rd msg) (c : Thread nD τ) none (κ := K (sc d s c m)) (Es := Set.univ)
      (w := .waitDma2 ((chs d s).sndSem m) ((chs d s).slot (m + 1)) ((chs d s).slot m) ((chs d s).slot_exact (m + 1)) ((chs d s).slot_exact m))
      (sm := .dma ((chs d s).sndSem m)) (k' := N)
      (fun K' => (wpE_waitDma2_eq 𝒱₀ (c : Thread nD τ) none Set.univ K').trans (congrArg (fun k => waitSpec (c : Thread nD τ) Set.univ _ k K') (slot_credit d s _)))
      (Set.mem_univ _) 0 (O := O) (W := W) (R := m / 6) (m := 0) (T := ∅) ((Nat.zero_add _).trans (expect_sc msg d s c hm).symm)) $$ [Hc HO Hat]
  · isplitr; · iapply (inv_at msg K (sc_mem d s c m)); iexact HI
    isplitl [Hc]; · iexact Hc
    isplitl [HO]; · iexact HO
    isplitr
    · have h1 : lv (sc d s c m) 0 ≤ 0 := Nat.le_of_eq (lv_sc d s c m 0)
      have h2 := mayWait (F := F) c (.dma ((chs d s).sndSem m)) 0 (by decide) h1 (hO.mono (Nat.zero_le k))
      iapply h2; iexact Hlev
    iexact Hat
  iintro ⟨HO, Hat, Hr, Hpay⟩
  ihave Hpay := (Entails.of_eq (rest_sc msg d s c hm)) $$ Hpay
  rw [wp_ret]; imodintro
  iapply Hk
  rw [sc_congr d s c (i := m + 6) (j := m) (by omega), show (m + 6) / 6 = m / 6 + 1 by omega]
  isplitl [Hat Hr]; · isplitl [Hat] <;> iassumption
  isplitl [Hpay]; · iexact Hpay
  iexists _; iexact HO

/-! ## Slots -/

theorem slot_split (d s : Bool) (c : Dev nD) (j : ℕ) (X : FVec F S256x512 .bf16) :
    (slotAt d s c j fullShare X : sProp 𝕄) ⊢ iprop(slotAt d s c j Lh X ∗ slotAt d s c j Rh X) := by
  exact (owns_halves (Val := Elt F) (c : Thread nD τ) ((chs d s).slot j) fullShare X).1

theorem slot_join (d s : Bool) (c : Dev nD) (j : ℕ) :
    iprop(slotAny d s c j Lh ∗ slotAny d s c j Rh) ⊢ (slotAny (F := F) d s c j fullShare : sProp 𝕄) := by
  unfold slotAny
  iintro ⟨⟨%X, H1⟩, %Y, H2⟩
  iexists X
  iapply (owns_halves _ _ fullShare X).2
  iapply (owns_agree (Φ := fun _ => True) _ _ Lh Rh X)
  isplitl [H1]; · iexact H1
  unfold slotAt owns ownsSat
  icases H2 with ⟨%f, -, H2⟩
  iexists f; isplitr; · ipureintro; trivial
  iexact H2

theorem slotAny_congr (d s : Bool) (c : Dev nD) {i j : ℕ} (h : i % 6 = j % 6) (q : PosShare TreeShare) :
    (slotAny (F := F) d s c i q : sProp 𝕄) = slotAny d s c j q := by
  unfold slotAny slotAt; rw [slot_congr _ h]

theorem slotAt_any (d s : Bool) (c : Dev nD) (j : ℕ) (q : PosShare TreeShare) (X : FVec F S256x512 .bf16) :
    (slotAt d s c j q X : sProp 𝕄) ⊢ slotAny d s c j q := by
  unfold slotAny; iintro H; iexists X; iexact H

theorem loadSlot_spec (d s : Bool) (c : Dev nD) (j : ℕ) (q : PosShare TreeShare) (X : FVec F S256x512 .bf16) (Q : Vec F S1x256x512 .bf16 → sProp 𝕄) :
    iprop(slotAt d s c j q X ∗ (∀ v, ⌜drop1 v = X⌝ -∗ slotAt d s c j q X -∗ Q v)) ⊢ WP c ((chs d s).loadSlot j) Q := by
  unfold slotAt owns Chan.loadSlot
  iintro ⟨⟨%f, %hf, H⟩, Hk⟩
  iapply (wp_load_rect 𝒱₀ (c : Thread nD τ) none Set.univ (m := (chs d s).buf) (r := slotRect j) (S := ((chs d s).slot j).view.set) (q := q) (f := f)
    (by rw [Memref.set_view_squeeze])) $$ [H]
  · iexact H
  iintro H
  rw [wp_ret]; imodintro
  iapply Hk $$ %_ []
  · ipureintro; exact hf
  iexists f; isplitr; · ipureintro; exact hf
  iexact H

theorem storeSlot_spec (d s : Bool) (c : Dev nD) (j : ℕ) (X : FVec F S256x512 .bf16) (Q : PUnit → sProp 𝕄) :
    iprop(slotAny d s c j fullShare ∗ (slotAt d s c j fullShare X -∗ Q ⟨⟩)) ⊢ WP c ((chs d s).storeSlot j (add1 X)) Q := by
  unfold slotAny slotAt owns Chan.storeSlot
  iintro ⟨⟨%Y, %f, -, H⟩, Hk⟩
  iapply (wp_store 𝒱₀ (c : Thread nD τ) none Set.univ (m := (chs d s).buf) (r := slotRect j) (w := add1 X) (Mk := Finset.univ) (S := ((chs d s).slot j).view.set) (f := f)
    (by rw [Memref.set_view_squeeze]; exact Finset.Subset.refl _)) $$ [H]
  · iexact H
  iintro H
  rw [wp_ret]; imodintro
  iapply Hk
  iexists _
  isplitr
  rotate_left
  · iexact H
  · ipureintro
    show drop1 (((chs d s).buf.access (slotRect j)).read (Elt F) (((chs d s).buf.access (slotRect j)).write (Elt F) f (add1 X) Finset.univ)) = X
    rw [View.read_write_univ]
    exact shapeCast_shapeCast _ _ _

/-! ## Sends -/

/-- Half of the slot the message leaves from, the half of the neighbour's slot that came with its own message, and the slot of
    this device that the neighbour's next message will fill: what a send takes along besides its message. -/
def along (d s : Bool) (m : ℕ) (c : Dev nD) : sProp 𝕄 :=
  iprop(opt (2 ≤ m ∧ m ≤ 26) (slotAny (!d) s (tgt d c) (m - 2) Lh) ∗ opt (3 ≤ m ∧ m ≤ 27) (dst (!d) s (m + 2) (tgt d c)))

theorem landed (d s : Bool) (c : Dev nD) (j : ℕ) (fd : Buf (Elt F) (((chs d s).slot j).view.loc (c : Thread nD τ))) (w : FVec F S256x512 .bf16) :
    ((((chs d s).slot j).view.loc (c : Thread nD τ) ↦[((chs d s).slot j).view.set]{fullShare} (((chs d s).slot j).view.write (Elt F) fd w Finset.univ)) : sProp 𝕄)
      ⊢ slotAt d s c j fullShare w := by
  unfold slotAt owns
  iintro H
  iexists _
  isplitr
  rotate_left
  · iexact H
  · ipureintro; exact View.read_write_univ _ _

theorem left_any (d s : Bool) (c : Dev nD) (j : ℕ) (q : PosShare TreeShare) (f : Buf (Elt F) (((chs d s).slot j).view.loc (c : Thread nD τ))) :
    ((((chs d s).slot j).view.loc (c : Thread nD τ) ↦[((chs d s).slot j).view.set]{q} f) : sProp 𝕄) ⊢ slotAny d s c j q := by
  unfold slotAny
  iintro H
  iexists _
  iapply (owns_intro (Val := Elt F) (c : Thread nD τ) ((chs d s).slot j) q f)
  iexact H

theorem send_spec (d s : Bool) (c : Dev nD) {m : ℕ} (hm : m < 30) (O : CellTallies nD τ sig ℕ) (Q : PUnit → sProp 𝕄) :
    iprop(ctx msg K ∗ slotAt d s c m fullShare (msg d s m c) ∗ dst d s m c
        ∗ dutyTok ER (sc d s c m) (m / 6) false ∗ reached ER (sc d s c m) (m / 6) ∗ dutyTok ER (rc d s (tgt d c) m) (m / 6) false
        ∗ owing c (O + tallyAt (rc d s (tgt d c) m) m N) ∗ along d s m c
        ∗ (cred (tallyAt (sc d s c m) 0 N) ∗ slotAt d s c m Rh (msg d s m c) ∗ owing c O -∗ Q ⟨⟩))
      ⊢ WP c ((chs d s).send (tgt d c) m) Q := by
  have hsplit := slot_split d s c m (msg d s m c)
  unfold ctx owing Chan.send dst
  iintro ⟨⟨#HI, -, #Hlev⟩, Hs, ⟨Hd, #Hrr⟩, Ht1, #Hr1, Ht2, ⟨%W, HO⟩, Ha, Hk⟩
  ihave Hs := hsplit $$ Hs
  icases Hs with ⟨Hl, Hr⟩
  unfold slotAny slotAt owns
  icases Hl with ⟨%fs, %hfs, Hl⟩
  icases Hd with ⟨%Y, %fd, -, Hd⟩
  have hin1 : (false : Bool) ∈ (Rd (F := F) msg).duties (sc d s c m) (m / 6) := by rw [duties_sc msg d s c hm]; exact Finset.mem_singleton_self _
  have hin2 : (false : Bool) ∈ (Rd (F := F) msg).duties (rc d s (tgt d c) m) (m / 6) := by rw [duties_rc msg d s (tgt d c) hm]; exact Finset.mem_singleton_self _
  rcases Nat.lt_or_ge m 25 with h25 | h25
  · iapply (Rounds.wp_send_landing_pointsTo_with 𝒱₀ ER (Rd msg) (c : Thread nD τ) none (c' := (tgt d c : Thread nD τ))
        (src := (chs d s).slot m) (dst := (chs d s).slot (m + 1)) (sS := .dma ((chs d s).sndSem m)) (sem := .dma ((chs d s).rcvSem (m + 1)))
        (q := Lh) (fs := fs) (fd := fd) (F := along d s m c) (κ₁ := K (sc d s c m)) (κ₂ := K (rc d s (tgt d c) m)) (r₁ := m / 6) (r₂ := m / 6)
        hin1 hin2 m 0 N (slot_credit d s (m + 1)) rfl rfl O rfl (W := W)
        (by rw [payload_sc, sndPay, opt_neg (by omega)])
        (by
          rw [payload_rc, rcvPay, src_tgt, opt_pos (show m ≤ 24 by omega), hfs]
          unfold along
          iintro ⟨⟨Hd, Ha, Hb⟩, Hl⟩
          isplitl [Hd]; · iapply (landed d s (tgt d c) (m + 1) fd (msg d s m c)); iexact Hd
          isplitl [Hl]; · iapply (left_any d s c m Lh fs); iexact Hl
          isplitl [Ha] <;> iassumption)) $$ [Hl Hd HO Ht1 Ht2 Ha]
    · isplitr; · iapply (inv_at msg K (sc_mem d s c m)); iexact HI
      isplitr; · iapply (inv_at msg K (rc_mem d s (tgt d c) m)); iexact HI
      isplitl [Hl]; · iexact Hl
      isplitl [Hd Ha]; · isplitl [Hd] <;> iassumption
      isplitl [HO]; · iexact HO
      isplitl [Ht1]; · iexact Ht1
      isplitr; · iexact Hr1
      isplitl [Ht2]; · iexact Ht2
      iexact Hrr
    iintro ⟨Hc, HO⟩
    rw [wp_ret]; imodintro
    iapply Hk
    isplitl [Hc]; · iexact Hc
    isplitl [Hr]; · iexact Hr
    iexists W; iexact HO
  · iapply (Rounds.wp_send_pointsTo_with 𝒱₀ ER (Rd msg) (c : Thread nD τ) none (c' := (tgt d c : Thread nD τ))
        (src := (chs d s).slot m) (dst := (chs d s).slot (m + 1)) (sS := .dma ((chs d s).sndSem m)) (sem := .dma ((chs d s).rcvSem (m + 1)))
        (q := Lh) (fs := fs) (fd := fd) (F := along d s m c) (κ₁ := K (sc d s c m)) (κ₂ := K (rc d s (tgt d c) m)) (r₁ := m / 6) (r₂ := m / 6)
        hin1 hin2 m 0 N (slot_credit d s (m + 1)) rfl rfl O rfl (W := W)
        (by rw [payload_sc, sndPay, opt_pos h25]; exact left_any d s c m Lh fs)
        (by
          rw [payload_rc, rcvPay, src_tgt, opt_neg (show ¬ m ≤ 24 by omega), hfs]
          unfold along
          iintro ⟨Hd, Ha, Hb⟩
          isplitl [Hd]; · iapply (landed d s (tgt d c) (m + 1) fd (msg d s m c)); iexact Hd
          isplitr; · iempintro
          isplitl [Ha] <;> iassumption)) $$ [Hl Hd HO Ht1 Ht2 Ha]
    · isplitr; · iapply (inv_at msg K (sc_mem d s c m)); iexact HI
      isplitr; · iapply (inv_at msg K (rc_mem d s (tgt d c) m)); iexact HI
      isplitl [Hl]; · iexact Hl
      isplitl [Hd Ha]; · isplitl [Hd] <;> iassumption
      isplitl [HO]; · iexact HO
      isplitl [Ht1]; · iexact Ht1
      isplitr; · iexact Hr1
      isplitl [Ht2]; · iexact Ht2
      iexact Hrr
    iintro ⟨Hc, HO⟩
    rw [wp_ret]; imodintro
    iapply Hk
    isplitl [Hc]; · iexact Hc
    isplitl [Hr]; · iexact Hr
    iexists W; iexact HO

end Cert.Ring16

end
-- ==== Proof.Ring16.Hops.lean ====
/-
  One hop of the ring, over a symbolic hop number.

  Before hop `h` of channel `(d, s)` a device holds, of that channel: its places on the six receive semaphores and the credit
  of every message still to come; its places on the six send semaphores and the credit of the sends not yet waited for; the
  tokens of the sends still to make; the right halves of the slots whose left halves travelled. A hop moves all of these
  windows one step on.
-/
module

public import proofs.«01_k».proof.Proof.Ring16.Cmds
public import Idealize.SL.BI.BigOpNat

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

theorem opt_mono {p q : Prop} [Decidable p] [Decidable q] (h : p ↔ q) {P Q : sProp 𝕄} (e : p → (P ⊢ Q)) : opt p P ⊢ opt q Q := by
  by_cases hp : p
  · rw [opt_pos hp, opt_pos (h.mp hp)]; exact e hp
  · rw [opt_neg hp, opt_neg (fun x => hp (h.mpr x))]

theorem opt_sep {p : Prop} [Decidable p] {P Q : sProp 𝕄} : iprop(opt p P ∗ opt p Q) ⊢ opt p (iprop(P ∗ Q)) := by
  by_cases hp : p
  · rw [opt_pos hp, opt_pos hp, opt_pos hp]
  · rw [opt_neg hp, opt_neg hp, opt_neg hp]; iintro -; iempintro

theorem opt_intro {p : Prop} [Decidable p] {P : sProp 𝕄} : P ⊢ opt p P := by
  by_cases hp : p
  · rw [opt_pos hp]
  · rw [opt_neg hp]; iintro -; iempintro

/-! ## The windows -/

/-- A run of resources over `a ≤ k < b`. -/
abbrev win (a b : ℕ) (A : ℕ → sProp 𝕄) : sProp 𝕄 := bigSep (Finset.Ico a b) A

theorem win_bot {a b : ℕ} (h : a < b) (A : ℕ → sProp 𝕄) : win a b A = iprop(A a ∗ win (a + 1) b A) := bigSep_Ico_succ_bot h A
theorem win_top {a b : ℕ} (h : a ≤ b) (A : ℕ → sProp 𝕄) : win a (b + 1) A = iprop(A b ∗ win a b A) := bigSep_Ico_succ_top h A
theorem win_nil {a b : ℕ} (h : b ≤ a) (A : ℕ → sProp 𝕄) : win a b A = iprop(emp) := by rw [win, Finset.Ico_eq_empty_of_le h]; exact bigSep_empty

abbrev rcPos (d s : Bool) (c : Dev nD) (n : ℕ) : sProp 𝕄 := posn (rc d s c n) (n / 6)
abbrev scPos (d s : Bool) (c : Dev nD) (m : ℕ) : sProp 𝕄 := posn (sc d s c m) (m / 6)
abbrev rcCred (d s : Bool) (c : Dev nD) (n : ℕ) : sProp 𝕄 := cred (tallyAt (rc d s c n) n N)
abbrev scCred (d s : Bool) (c : Dev nD) (m : ℕ) : sProp 𝕄 := cred (tallyAt (sc d s c m) 0 N)
abbrev rcTok (d s : Bool) (c : Dev nD) (m : ℕ) : sProp 𝕄 := dutyTok ER (rc d s (tgt d c) m) (m / 6) false
abbrev scTok (d s : Bool) (c : Dev nD) (m : ℕ) : sProp 𝕄 := dutyTok ER (sc d s c m) (m / 6) false

/-- The receiving side before hop `h`. -/
def Rv (d s : Bool) (c : Dev nD) (h : ℕ) : sProp 𝕄 := iprop(win h (h + 6) (rcPos d s c) ∗ win h 30 (rcCred d s c))
/-- The sending side after the waits of hop `h - 1` and `b` sends. -/
def Sw (d s : Bool) (c : Dev nD) (h b : ℕ) : sProp 𝕄 := iprop(win (h - 5) (h - 5 + 6) (scPos d s c) ∗ win (h - 5) b (scCred d s c))
/-- The tokens of the sends from `h + 1` on. -/
def Tk (d s : Bool) (c : Dev nD) (h : ℕ) : sProp 𝕄 := iprop(win (h + 1) 30 (rcTok d s c) ∗ win (h + 1) 30 (scTok d s c))
/-- The right halves of slots. -/
def Rt (d s : Bool) (c : Dev nD) (a b : ℕ) : sProp 𝕄 := win a b (fun m => slotAny d s c m Rh)

/-- What a device holds of channel `(d, s)` before hop `h`. -/
def Mine (d s : Bool) (c : Dev nD) (h : ℕ) : sProp 𝕄 :=
  iprop(Rv d s c h ∗ Sw d s c h (min (h + 1) 30) ∗ Tk d s c h ∗ Rt d s c (min (h - 1) 25) (min (h + 1) 30) ∗ opt (30 ≤ h) (slotAny d s c 30 fullShare))

/-- What channel `(d, s)` has ready for hop `h` of the opposite direction. -/
def Cross (d s : Bool) (c : Dev nD) (h : ℕ) : sProp 𝕄 :=
  iprop(opt (2 ≤ h ∧ h ≤ 26) (slotAny d s c (h - 2) Rh) ∗ opt (1 ≤ h ∧ h ≤ 25) (slotAny d s (src d c) (h - 1) Lh))

variable (msg : Bool → Bool → ℕ → Dev nD → FVec F S256x512 .bf16) (K : GSem nD τ sig → ℕ)

/-! ## The waits of a hop -/

theorem recvStep (d s : Bool) (c : Dev nD) {h : ℕ} (hh : h < 30) {O : CellTallies nD τ sig ℕ} (hO : Above (2 + h) O) (Q : PUnit → sProp 𝕄) :
    iprop(ctx msg K ∗ Rv d s c h ∗ owing c O ∗ (Rv d s c (h + 1) ∗ rcvPay msg d s h c ∗ owing c O -∗ Q ⟨⟩))
      ⊢ WP c ((chs d s).waitRecv h) Q := by
  unfold Rv
  rw [win_bot (show h < h + 6 by omega), win_bot hh, show h + 1 + 6 = (h + 6) + 1 by omega,
    win_top (show h + 1 ≤ h + 6 by omega)]
  iintro ⟨#HI, ⟨⟨Hp, Hps⟩, Hc, Hcs⟩, HO, Hk⟩
  iapply (waitRecv_spec msg K d s c hh hO)
  isplitr; · iexact HI
  isplitl [Hp]; · iexact Hp
  isplitl [Hc]; · iexact Hc
  isplitl [HO]; · iexact HO
  iintro ⟨Hp, Hpay, HO⟩
  iapply Hk
  isplitl [Hp Hps Hcs]
  · isplitl [Hp Hps]
    · isplitl [Hp] <;> iassumption
    · iexact Hcs
  isplitl [Hpay] <;> iassumption

theorem sendWaitStep (d s : Bool) (c : Dev nD) {h : ℕ} (hh : h < 30) {k : ℕ} {O : CellTallies nD τ sig ℕ} (hO : Above k O) (Q : PUnit → sProp 𝕄) :
    iprop(ctx msg K ∗ Sw d s c h (min (h + 1) 30) ∗ owing c O ∗ (Sw d s c (h + 1) (min (h + 1) 30) ∗ owing c O -∗ Q ⟨⟩))
      ⊢ WP c (cond (Nat.ble 5 h) ((chs d s).waitSend (h - 5)) (pure ⟨⟩)) Q := by
  unfold Sw
  rcases Nat.lt_or_ge h 5 with h5 | h5
  · rw [show Nat.ble 5 h = false from Bool.eq_false_iff.mpr (fun e => by have := Nat.le_of_ble_eq_true e; omega), show h + 1 - 5 = h - 5 by omega]
    iintro ⟨#HI, HS, HO, Hk⟩
    iapply (WP_pure (F := F) c)
    iapply Hk
    isplitl [HS] <;> iassumption
  · obtain ⟨u, rfl⟩ : ∃ u, h = u + 5 := ⟨h - 5, by omega⟩
    rw [show Nat.ble 5 (u + 5) = true from Nat.ble_eq.mpr h5, show u + 5 - 5 = u by omega, show u + 5 + 1 - 5 = u + 1 by omega,
      win_bot (show u < u + 6 by omega), win_bot (show u < min (u + 5 + 1) 30 by omega),
      show u + 1 + 6 = (u + 6) + 1 by omega, win_top (show u + 1 ≤ u + 6 by omega)]
    iintro ⟨#HI, ⟨⟨Hp, Hps⟩, Hc, Hcs⟩, HO, Hk⟩
    iapply (waitSend_spec msg K d s c (show u < 30 by omega) hO)
    isplitr; · iexact HI
    isplitl [Hp]; · iexact Hp
    isplitl [Hc]; · iexact Hc
    isplitl [HO]; · iexact HO
    iintro ⟨Hp, -, HO⟩
    iapply Hk
    isplitl [Hp Hps Hcs]
    · isplitl [Hp Hps]
      · isplitl [Hp] <;> iassumption
      · iexact Hcs
    iexact HO

/-- The beginning of a hop. -/
theorem arrive_spec (d s : Bool) (c : Dev nD) {h : ℕ} (hh : h < 30) {O : CellTallies nD τ sig ℕ} (hO : Above (2 + h) O) (Q : PUnit → sProp 𝕄) :
    iprop(ctx msg K ∗ Rv d s c h ∗ Sw d s c h (min (h + 1) 30) ∗ owing c O
        ∗ (Rv d s c (h + 1) ∗ Sw d s c (h + 1) (min (h + 1) 30) ∗ rcvPay msg d s h c ∗ owing c O -∗ Q ⟨⟩))
      ⊢ WP c (arrive chs d s h) Q := by
  unfold arrive
  rw [WP_bind]
  iintro ⟨#HI, HR, HS, HO, Hk⟩
  iapply (sendWaitStep msg K d s c hh hO)
  isplitr; · iexact HI
  isplitl [HS]; · iexact HS
  isplitl [HO]; · iexact HO
  iintro ⟨HS, HO⟩
  iapply (recvStep msg K d s c hh hO)
  isplitr; · iexact HI
  isplitl [HR]; · iexact HR
  isplitl [HO]; · iexact HO
  iintro ⟨HR, Hpay, HO⟩
  iapply Hk
  isplitl [HR]; · iexact HR
  isplitl [HS]; · iexact HS
  isplitl [Hpay] <;> iassumption

/-! ## The send of a hop -/

theorem Sw_reached (d s : Bool) (c : Dev nD) (h b m : ℕ) (h1 : h - 5 ≤ m) (h2 : m < h - 5 + 6) :
    (Sw d s c h b : sProp 𝕄) ⊢ iprop(Sw d s c h b ∗ reached ER (sc d s c m) (m / 6)) := by
  have hm : m ∈ Finset.Ico (h - 5) (h - 5 + 6) := Finset.mem_Ico.mpr ⟨h1, h2⟩
  unfold Sw win
  rw [show ∀ A : ℕ → sProp 𝕄, bigSep (Finset.Ico _ _) A = iprop(A _ ∗ bigSep (Finset.erase _ _) A) from fun A => BI.bigSep_erase hm]
  unfold scPos posn
  iintro ⟨⟨⟨Ha, #Hr⟩, Hs⟩, Hc⟩
  isplitl [Ha Hs Hc]
  · isplitl [Ha Hs]
    · isplitl [Ha]
      · isplitl [Ha]; · iexact Ha
        iexact Hr
      · iexact Hs
    · iexact Hc
  · iexact Hr

theorem Rv_reached (d s : Bool) (c : Dev nD) (h n : ℕ) (h1 : h ≤ n) (h2 : n < h + 6) :
    (Rv d s c h : sProp 𝕄) ⊢ iprop(Rv d s c h ∗ reached ER (rc d s c n) (n / 6)) := by
  have hm : n ∈ Finset.Ico h (h + 6) := Finset.mem_Ico.mpr ⟨h1, h2⟩
  unfold Rv win
  rw [show ∀ A : ℕ → sProp 𝕄, bigSep (Finset.Ico _ _) A = iprop(A _ ∗ bigSep (Finset.erase _ _) A) from fun A => BI.bigSep_erase hm]
  unfold rcPos posn
  iintro ⟨⟨⟨Ha, #Hr⟩, Hs⟩, Hc⟩
  isplitl [Ha Hs Hc]
  · isplitl [Ha Hs]
    · isplitl [Ha]
      · isplitl [Ha]; · iexact Ha
        iexact Hr
      · iexact Hs
    · iexact Hc
  · iexact Hr

theorem sendStep (d s : Bool) (c : Dev nD) {h : ℕ} (hh : h < 29) (O : CellTallies nD τ sig ℕ) (Q : PUnit → sProp 𝕄) :
    iprop(ctx msg K ∗ slotAt d s c (h + 1) fullShare (msg d s (h + 1) c) ∗ dst d s (h + 1) c ∗ Sw d s c (h + 1) (min (h + 1) 30) ∗ Tk d s c h
        ∗ owing c (O + tallyAt (rc d s (tgt d c) (h + 1)) (h + 1) N) ∗ along d s (h + 1) c
        ∗ (Sw d s c (h + 1) (min (h + 1 + 1) 30) ∗ Tk d s c (h + 1) ∗ slotAt d s c (h + 1) Rh (msg d s (h + 1) c) ∗ owing c O -∗ Q ⟨⟩))
      ⊢ WP c ((chs d s).send (tgt d c) (h + 1)) Q := by
  have hr := Sw_reached (F := F) d s c (h + 1) (min (h + 1) 30) (h + 1) (by omega) (by omega)
  iintro ⟨#HI, Hs, Hd, HS, HT, HO, Ha, Hk⟩
  ihave HS := hr $$ HS
  icases HS with ⟨HS, #Hr⟩
  unfold Sw Tk
  rw [show min (h + 1) 30 = h + 1 by omega, show min (h + 1 + 1) 30 = (h + 1) + 1 by omega,
    win_top (show h + 1 - 5 ≤ h + 1 by omega) (scCred d s c), win_bot (show h + 1 < 30 by omega) (rcTok d s c),
    win_bot (show h + 1 < 30 by omega) (scTok d s c)]
  icases HS with ⟨HSp, HSc⟩
  icases HT with ⟨⟨Ht2, Ht2s⟩, Ht1, Ht1s⟩
  iapply (send_spec msg K d s c (show h + 1 < 30 by omega) O)
  isplitr; · iexact HI
  isplitl [Hs]; · iexact Hs
  isplitl [Hd]; · iexact Hd
  isplitl [Ht1]; · iexact Ht1
  isplitr; · iexact Hr
  isplitl [Ht2]; · iexact Ht2
  isplitl [HO]; · iexact HO
  isplitl [Ha]; · iexact Ha
  iintro ⟨Hc, Hs, HO⟩
  iapply Hk
  isplitl [HSp HSc Hc]
  · isplitl [HSp]; · iexact HSp
    isplitl [Hc] <;> iassumption
  isplitl [Ht1s Ht2s]; · isplitl [Ht2s] <;> iassumption
  isplitl [Hs] <;> iassumption

/-! ## What travels between the two directions -/

/-- What a send takes along, out of what the opposite direction has ready and of what just came. -/
theorem along_intro (d s : Bool) (c : Dev nD) (h : ℕ) :
    iprop(Cross (!d) s c h ∗ opt (2 ≤ h ∧ h ≤ 26) (slotAny (!d) s c (h - 2) Lh) ∗ reached ER (rc (!d) s c (h + 3)) ((h + 3) / 6))
      ⊢ (along (F := F) d s (h + 1) c : sProp 𝕄) := by
  unfold Cross along dst
  rw [show src (!d) c = tgt d c from by rw [src, Bool.not_not], show tgt (!d) (tgt d c) = c from src_tgt d c,
    show h + 1 - 2 = h - 1 by omega, show h + 1 + 2 = h + 3 by omega]
  have e1 := opt_mono (F := F) (p := 1 ≤ h ∧ h ≤ 25) (q := 2 ≤ h + 1 ∧ h + 1 ≤ 26) (by omega) (P := slotAny (!d) s (tgt d c) (h - 1) Lh) fun _ => BI.Entails.refl _
  have e2 := opt_mono (F := F) (p := 2 ≤ h ∧ h ≤ 26) (q := 3 ≤ h + 1 ∧ h + 1 ≤ 27) (by omega)
    (P := iprop((slotAny (!d) s c (h - 2) Lh ∗ slotAny (!d) s c (h - 2) Rh) ∗ reached ER (rc (!d) s c (h + 3)) ((h + 3) / 6)))
    (Q := iprop(slotAny (!d) s c (h + 3 + 1) fullShare ∗ reached ER (rc (!d) s c (h + 3)) ((h + 3) / 6))) fun h1 => by
      rw [slotAny_congr (!d) s c (i := h + 3 + 1) (j := h - 2) (by omega)]
      iintro ⟨H, #Hr⟩
      isplitl [H]
      · iapply (slot_join (!d) s c (h - 2)); iexact H
      · iexact Hr
  iintro ⟨⟨HR, HL⟩, HL2, #Hr⟩
  isplitl [HL]; · iapply e1; iexact HL
  iapply e2
  iapply opt_sep
  isplitl [HR HL2]
  · iapply opt_sep
    isplitl [HL2] <;> iassumption
  · iapply opt_intro; iexact Hr

/-- The right half that leaves the window, and the half that came, are what the channel has ready for the next hop. -/
theorem Cross_intro (d s : Bool) (c : Dev nD) {h : ℕ} (hh : h < 30) :
    iprop(Rt d s c (min (h - 1) 25) (min (h + 1) 30) ∗ opt (h ≤ 24) (slotAny d s (src d c) h Lh))
      ⊢ (iprop(Rt d s c (min h 25) (min (h + 1) 30) ∗ Cross d s c (h + 1)) : sProp 𝕄) := by
  unfold Cross Rt
  have e2 : opt (h ≤ 24) (slotAny d s (src d c) h Lh) = (opt (1 ≤ h + 1 ∧ h + 1 ≤ 25) (slotAny d s (src d c) (h + 1 - 1) Lh) : sProp 𝕄) := by
    rcases Nat.lt_or_ge 24 h with h1 | h1
    · rw [opt_neg (by omega), opt_neg (by omega)]
    · rw [opt_pos h1, opt_pos (by omega), Nat.add_sub_cancel]
  rw [e2]
  rcases Decidable.em (1 ≤ h ∧ h ≤ 25) with h1 | h1
  · rw [opt_pos (show 2 ≤ h + 1 ∧ h + 1 ≤ 26 by omega), show min (h - 1) 25 = h - 1 by omega, show min h 25 = h - 1 + 1 by omega,
      win_bot (show h - 1 < min (h + 1) 30 by omega), show h + 1 - 2 = h - 1 by omega]
    iintro ⟨⟨H1, H2⟩, H3⟩
    isplitl [H2]; · iexact H2
    isplitl [H1] <;> iassumption
  · rw [opt_neg (show ¬ (2 ≤ h + 1 ∧ h + 1 ≤ 26) by omega), show min (h - 1) 25 = min h 25 by omega]
    iintro ⟨H2, H3⟩
    isplitl [H2]; · iexact H2
    isplitr; · iempintro
    iexact H3

theorem Rt_push (d s : Bool) (c : Dev nD) {h : ℕ} (hh : h < 29) :
    iprop(Rt d s c (min h 25) (min (h + 1) 30) ∗ slotAny d s c (h + 1) Rh)
      ⊢ (Rt d s c (min (h + 1 - 1) 25) (min (h + 1 + 1) 30) : sProp 𝕄) := by
  unfold Rt
  rw [show h + 1 - 1 = h by omega, show min (h + 1) 30 = h + 1 by omega, show min (h + 1 + 1) 30 = (h + 1) + 1 by omega,
    win_top (show min h 25 ≤ h + 1 by omega)]
  iintro ⟨H1, H2⟩
  isplitl [H2] <;> iassumption

/-- What a device still owes for the send of hop `h`. -/
def due (d s : Bool) (c : Dev nD) (h : ℕ) : CellTallies nD τ sig ℕ := if h < 29 then tallyAt (rc d s (tgt d c) (h + 1)) (h + 1) N else 0

/-- The send of a hop with all it takes along, and what is ready for the opposite direction afterwards. -/
theorem sendHop (d s : Bool) (c : Dev nD) {h : ℕ} (hh : h < 29) (O : CellTallies nD τ sig ℕ) (Q : PUnit → sProp 𝕄) :
    iprop(ctx msg K ∗ slotAt d s c (h + 1) fullShare (msg d s (h + 1) c) ∗ opt (h < 29) (dst d s (h + 1) c) ∗ Sw d s c (h + 1) (min (h + 1) 30)
        ∗ Tk d s c h ∗ Rt d s c (min (h - 1) 25) (min (h + 1) 30) ∗ opt (h ≤ 24) (slotAny d s (src d c) h Lh)
        ∗ Cross (!d) s c h ∗ opt (2 ≤ h ∧ h ≤ 26) (slotAny (!d) s c (h - 2) Lh) ∗ reached ER (rc (!d) s c (h + 3)) ((h + 3) / 6)
        ∗ owing c (O + due d s c h)
        ∗ (Sw d s c (h + 1) (min (h + 1 + 1) 30) ∗ Tk d s c (h + 1) ∗ Rt d s c (min h 25) (min (h + 1) 30) ∗ Cross d s c (h + 1)
            ∗ slotAt d s c (h + 1) Rh (msg d s (h + 1) c) ∗ owing c O -∗ Q ⟨⟩))
      ⊢ WP c ((chs d s).send (tgt d c) (h + 1)) Q := by
  have hA := along_intro (F := F) d s c h
  have hC := Cross_intro (F := F) d s c (show h < 30 by omega)
  unfold due
  rw [if_pos hh, opt_pos hh]
  iintro ⟨#HI, Hs, Hd, HS, HT, HR, HL, HX, HI3, #Hr, HO, Hk⟩
  iapply (sendStep msg K d s c hh O)
  isplitr; · iexact HI
  isplitl [Hs]; · iexact Hs
  isplitl [Hd]; · iexact Hd
  isplitl [HS]; · iexact HS
  isplitl [HT]; · iexact HT
  isplitl [HO]; · iexact HO
  isplitl [HX HI3]
  · iapply hA
    isplitl [HX]; · iexact HX
    isplitl [HI3]; · iexact HI3
    iexact Hr
  iintro ⟨HS, HT, Hs, HO⟩
  iapply Hk
  isplitl [HS]; · iexact HS
  isplitl [HT]; · iexact HT
  ihave HC := hC $$ [HR HL]
  · isplitl [HR] <;> iassumption
  icases HC with ⟨HR, HX⟩
  isplitl [HR]; · iexact HR
  isplitl [HX]; · iexact HX
  isplitl [Hs] <;> iassumption

/-! ## The result -/

section Out

variable (out : Memref sig .tc .vmem S4096x2048 .f32) (v0 : BitVec 32) (hw3 : k0_chk3 v0)

abbrev outRect (d s : Bool) (h : ℕ) : Rect S4096x2048 := Rect.unit (s := S4096x2048) (outOff d s v0 h) S256x512.size (outOff_inb d s v0 hw3 h)

/-- The result's buffer, holding `G` on the blocks of the hops in `D`. -/
def outAt (c : Dev nD) (G : FVec F S4096x2048 .f32) (D : Bool → Bool → ℕ → Prop) : sProp 𝕄 :=
  iprop(∃ X : FVec F S4096x2048 .f32, ⌜∀ d s k, D d s k → 14 ≤ k → ∀ y : S256x512.Idx, X ((outRect v0 hw3 d s k).emb y) = G ((outRect v0 hw3 d s k).emb y)⌝
    ∗ owns (Val := Elt F) (c : Thread nD τ) out fullShare X)

theorem outAt_mono (c : Dev nD) (G : FVec F S4096x2048 .f32) {D D' : Bool → Bool → ℕ → Prop} (hD : ∀ d s k, D' d s k → 14 ≤ k → D d s k) :
    (outAt out v0 hw3 c G D : sProp 𝕄) ⊢ outAt out v0 hw3 c G D' := by
  unfold outAt
  iintro ⟨%X, %hX, H⟩
  iexists X
  isplitr
  · ipureintro; exact fun d s k h hk => hX d s k (hD d s k h hk) hk
  iexact H

theorem putOut_spec (c : Dev nD) (G : FVec F S4096x2048 .f32) {D D' : Bool → Bool → ℕ → Prop} (d s : Bool) (h : ℕ) (v : FVec F S256x512 .f32)
    (hv : ∀ y : S256x512.Idx, v y = G ((outRect v0 hw3 d s h).emb y))
    (hD : ∀ d' s' k, D' d' s' k → 14 ≤ k → D d' s' k ∨ (d' = d ∧ s' = s ∧ k = h)) (Q : PUnit → sProp 𝕄) :
    iprop(outAt out v0 hw3 c G D ∗ (outAt out v0 hw3 c G D' -∗ Q ⟨⟩)) ⊢ WP c (putOut out v0 hw3 d s h v) Q := by
  unfold outAt owns putOut
  rw [WP_bind]
  iintro ⟨⟨%X, %hX, %f, %hf, H⟩, Hk⟩
  iapply (wp_load_rect 𝒱₀ (c : Thread nD τ) none Set.univ (m := out) (r := outRect v0 hw3 d s h) (S := out.view.set) (q := fullShare) (f := f)
    (View.set_slice_subset _ _)) $$ [H]
  · iexact H
  iintro H
  rw [wp_ret]; imodintro
  iapply (wp_store 𝒱₀ (c : Thread nD τ) none Set.univ (m := out) (r := outRect v0 hw3 d s h) (w := v) (Mk := Finset.univ) (S := out.view.set) (f := f)
    (View.set_slice_subset _ _)) $$ [H]
  · iexact H
  iintro H
  rw [wp_ret]; imodintro
  iapply Hk
  iexists (out.view.read (Elt F) ((out.access (outRect v0 hw3 d s h)).write (Elt F) f v Finset.univ))
  isplitr
  · ipureintro
    intro d' s' k hk h14 y
    by_cases hy : (outRect v0 hw3 d' s' k).emb y ∈ Finset.univ.map (outRect v0 hw3 d s h).emb
    · obtain ⟨z, -, hz⟩ := Finset.mem_map.mp hy
      rw [← hz]
      exact (View.read_slice_write_emb (v := out.view) (outRect v0 hw3 d s h) f v (Finset.mem_univ z)).trans (hv z)
    · refine (View.read_slice_write_of_not_mem (v := out.view) (outRect v0 hw3 d s h) f v Finset.univ hy).trans ?_
      rcases hD d' s' k hk h14 with h1 | ⟨rfl, rfl, rfl⟩
      · rw [hf]; exact hX d' s' k h1 h14 y
      · exact absurd (Finset.mem_map_of_mem _ (Finset.mem_univ y)) hy
  · iexists _
    isplitr
    rotate_left
    · iexact H
    · ipureintro; rfl

end Out

/-! ## The two kinds of hop -/

section Hop

variable (out : Memref sig .tc .vmem S4096x2048 .f32) (v0 v1 v2 : BitVec 32) (hw3 : k0_chk3 v0) (hw2 : k0_chk2 v1) (hw1 : k0_chk1 v2)

/-- What hop `h` of channel `(d, s)` finds. -/
def HopPre (c : Dev nD) (G : FVec F S4096x2048 .f32) (D : Bool → Bool → ℕ → Prop) (O : CellTallies nD τ sig ℕ) (d s : Bool) (h : ℕ) : sProp 𝕄 :=
  iprop(Mine d s c h ∗ Cross (!d) s c h ∗ opt (h < 29) (dst d s (h + 1) c) ∗ reached ER (rc (!d) s c (h + 3)) ((h + 3) / 6)
    ∗ owing c (O + due d s c h) ∗ outAt out v0 hw3 c G D)

/-- What it leaves. -/
def HopPost (c : Dev nD) (G : FVec F S4096x2048 .f32) (D : Bool → Bool → ℕ → Prop) (O : CellTallies nD τ sig ℕ) (d s : Bool) (h : ℕ) : sProp 𝕄 :=
  iprop(Mine d s c (h + 1) ∗ Cross d s c (h + 1) ∗ opt (3 ≤ h ∧ h ≤ 27) (dst (!d) s (h + 2) c) ∗ owing c O ∗ outAt out v0 hw3 c G D)

theorem due_above (d s : Bool) (c : Dev nD) (h : ℕ) : Above (2 + h) (due d s c h) := by
  unfold due
  split
  · exact Above.rc d s (tgt d c) (by omega) (by omega)
  · exact Above.zero _

theorem hopReduce_spec (c : Dev nD) (G : FVec F S4096x2048 .f32) {D D' : Bool → Bool → ℕ → Prop} {O : CellTallies nD τ sig ℕ} (d s : Bool) {h : ℕ} (hh : h < 15)
    (ht : target v1 v2 hw2 hw1 d = tgt d c) (hO : Above (2 + h) O) (p : FVec F S256x1024 .f32)
    (hm : msg d s (h + 1) c = truncf .bf16 (summed s p (msg d s h (src d c))) bitsLt_bf16_f32)
    (hv : h = 14 → ∀ y : S256x512.Idx, summed s p (msg d s h (src d c)) y = G ((outRect v0 hw3 d s h).emb y))
    (hD : ∀ d' s' k, D' d' s' k → 14 ≤ k → D d' s' k ∨ (d' = d ∧ s' = s ∧ k = h)) (hD' : h < 14 → ∀ d' s' k, D' d' s' k → 14 ≤ k → D d' s' k) (Q : PUnit → sProp 𝕄) :
    iprop(ctx msg K ∗ HopPre out v0 hw3 c G D O d s h ∗ (HopPost out v0 hw3 c G D' O d s h -∗ Q ⟨⟩))
      ⊢ WP c (hopReduce out chs v0 v1 v2 hw3 hw2 hw1 d s h p) Q := by
  have hP := Rt_push (F := F) d s c (show h < 29 by omega)
  unfold HopPre HopPost hopReduce Mine
  rw [WP_bind, ht, opt_neg (show ¬ 30 ≤ h + 1 by omega)]
  iintro ⟨#HI, ⟨⟨HV, HS, HT, HR, -⟩, HX, Hd, #Hr, HO, Hout⟩, Hk⟩
  iapply (arrive_spec msg K d s c (show h < 30 by omega) (hO.add (due_above d s c h)))
  isplitr; · iexact HI
  isplitl [HV]; · iexact HV
  isplitl [HS]; · iexact HS
  isplitl [HO]; · iexact HO
  unfold rcvPay
  iintro ⟨HV, HS, ⟨Hs, HL, H3, H4⟩, HO⟩
  rw [WP_bind]
  iapply (loadSlot_spec d s c)
  isplitl [Hs]; · iexact Hs
  iintro %v %hvv Hs
  rw [WP_bind]
  iapply (loadSlot_spec d s c)
  isplitl [Hs]; · iexact Hs
  iintro %v' %hvv' Hs
  rw [WP_bind, hvv, ← hm]
  iapply (storeSlot_spec d s c)
  isplitl [Hs]; · iapply (slotAt_any d s c); iexact Hs
  iintro Hs
  rw [WP_bind]
  iapply (sendHop msg K d s c (show h < 29 by omega) O)
  isplitr; · iexact HI
  isplitl [Hs]; · iexact Hs
  isplitl [Hd]; · iexact Hd
  isplitl [HS]; · iexact HS
  isplitl [HT]; · iexact HT
  isplitl [HR]; · iexact HR
  isplitl [HL]; · iexact HL
  isplitl [HX]; · iexact HX
  isplitl [H3]; · iexact H3
  isplitr; · iexact Hr
  isplitl [HO]; · iexact HO
  iintro ⟨HS, HT, HR, HX, Hs, HO⟩
  have hput : iprop(outAt out v0 hw3 c G D ∗ (outAt out v0 hw3 c G D' -∗ Q ⟨⟩))
      ⊢ WP c (cond (Nat.ble 14 h) (putOut out v0 hw3 d s h (summed s p (msg d s h (src d c)))) (pure ⟨⟩)) Q := by
    rcases Nat.lt_or_ge h 14 with h1 | h1
    · rw [show Nat.ble 14 h = false from Bool.eq_false_iff.mpr (fun e => by have := Nat.le_of_ble_eq_true e; omega)]
      iintro ⟨H, Hk⟩
      iapply (WP_pure (F := F) c)
      iapply Hk
      iapply (outAt_mono out v0 hw3 c G (hD' h1))
      iexact H
    · rw [show Nat.ble 14 h = true from Nat.ble_eq.mpr h1]
      exact putOut_spec out v0 hw3 c G d s h _ (hv (by omega)) hD Q
  iapply hput
  isplitl [Hout]; · iexact Hout
  iintro Hout
  iapply Hk
  isplitl [HV HS HT HR Hs]
  · isplitl [HV]; · iexact HV
    isplitl [HS]; · iexact HS
    isplitl [HT]; · iexact HT
    isplitl [HR Hs]
    · iapply hP
      isplitl [HR]; · iexact HR
      iapply (slotAt_any d s c); iexact Hs
    iempintro
  isplitl [HX]; · iexact HX
  isplitl [H4]; · iexact H4
  isplitl [HO] <;> iassumption

theorem hopGather_spec (c : Dev nD) (G : FVec F S4096x2048 .f32) {D D' : Bool → Bool → ℕ → Prop} {O : CellTallies nD τ sig ℕ} (d s : Bool) {h : ℕ} (h15 : 15 ≤ h) (hh : h < 30)
    (ht : target v1 v2 hw2 hw1 d = tgt d c) (hO : Above (2 + h) O)
    (hm : h < 29 → msg d s (h + 1) c = msg d s h (src d c))
    (hv : ∀ y : S256x512.Idx, extf .f32 (msg d s h (src d c)) bitsLt_bf16_f32 y = G ((outRect v0 hw3 d s h).emb y))
    (hD : ∀ d' s' k, D' d' s' k → 14 ≤ k → D d' s' k ∨ (d' = d ∧ s' = s ∧ k = h)) (Q : PUnit → sProp 𝕄) :
    iprop(ctx msg K ∗ HopPre out v0 hw3 c G D O d s h ∗ (HopPost out v0 hw3 c G D' O d s h -∗ Q ⟨⟩))
      ⊢ WP c (hopGather out chs v0 v1 v2 hw3 hw2 hw1 d s h) Q := by
  have hC := Cross_intro (F := F) d s c (show h < 30 by omega)
  unfold HopPre HopPost hopGather Mine
  rw [WP_bind, ht]
  iintro ⟨#HI, ⟨⟨HV, HS, HT, HR, -⟩, HX, Hd, #Hr, HO, Hout⟩, Hk⟩
  iapply (arrive_spec msg K d s c (show h < 30 by omega) (hO.add (due_above d s c h)))
  isplitr; · iexact HI
  isplitl [HV]; · iexact HV
  isplitl [HS]; · iexact HS
  isplitl [HO]; · iexact HO
  unfold rcvPay
  iintro ⟨HV, HS, ⟨Hs, HL, H3, H4⟩, HO⟩
  rw [WP_bind]
  rcases Nat.lt_or_ge h 29 with h29 | h29
  · have hP := Rt_push (F := F) d s c h29
    rw [show Nat.ble 29 h = false from Bool.eq_false_iff.mpr (fun e => by have := Nat.le_of_ble_eq_true e; omega), ← hm h29,
      opt_neg (show ¬ 30 ≤ h + 1 by omega)]
    iapply (sendHop msg K d s c h29 O)
    isplitr; · iexact HI
    isplitl [Hs]; · iexact Hs
    isplitl [Hd]; · iexact Hd
    isplitl [HS]; · iexact HS
    isplitl [HT]; · iexact HT
    isplitl [HR]; · iexact HR
    isplitl [HL]; · iexact HL
    isplitl [HX]; · iexact HX
    isplitl [H3]; · iexact H3
    isplitr; · iexact Hr
    isplitl [HO]; · iexact HO
    iintro ⟨HS, HT, HR, HX, Hs, HO⟩
    rw [WP_bind]
    iapply (loadSlot_spec d s c)
    isplitl [Hs]; · iexact Hs
    iintro %v %hvv Hs
    rw [hvv]
    iapply (putOut_spec out v0 hw3 c G d s h _ (by rw [hm h29]; exact hv) hD)
    isplitl [Hout]; · iexact Hout
    iintro Hout
    iapply Hk
    isplitl [HV HS HT HR Hs]
    · isplitl [HV]; · iexact HV
      isplitl [HS]; · iexact HS
      isplitl [HT]; · iexact HT
      isplitl [HR Hs]
      · iapply hP
        isplitl [HR]; · iexact HR
        iapply (slotAt_any d s c); iexact Hs
      iempintro
    isplitl [HX]; · iexact HX
    isplitl [H4]; · iexact H4
    isplitl [HO] <;> iassumption
  · obtain rfl : h = 29 := by omega
    iapply (WP_pure (F := F) c)
    rw [WP_bind]
    iapply (loadSlot_spec d s c)
    isplitl [Hs]; · iexact Hs
    iintro %v %hvv Hs
    rw [hvv]
    iapply (putOut_spec out v0 hw3 c G d s 29 _ hv hD)
    isplitl [Hout]; · iexact Hout
    iintro Hout
    ihave HC := hC $$ [HR HL]
    · isplitl [HR] <;> iassumption
    icases HC with ⟨HR, HX'⟩
    iapply Hk
    isplitl [HV HS HT HR Hs]
    · isplitl [HV]; · iexact HV
      isplitl [HS]; · iexact HS
      isplitl [HT]
      · unfold Tk; rw [win_nil (by omega), win_nil (by omega), win_nil (by omega), win_nil (by omega)]; iexact HT
      isplitl [HR]; · iexact HR
      rw [opt_pos (by omega)]
      iapply (slotAt_any d s c); iexact Hs
    isplitl [HX']; · iexact HX'
    isplitl [H4]; · iexact H4
    isplitl [HO]
    · unfold due; rw [if_neg (by omega), add_zero]; iexact HO
    iexact Hout

end Hop

end Cert.Ring16

end
-- ==== Proof.Ring16.Vals.lean ====
/-
  The values of the protocol: what each message holds and what the result holds, as functions of every device's blocks. The
  recursion is over the hop number, at a symbolic device.
-/
module

public import proofs.«01_k».proof.Proof.Ring16.Cells

@[expose] public section

noncomputable section

namespace Cert.Ring16

open Cert.KernelIdeal Cert.KernelIdeal.Gen

open Idealize.ShloMosaic
open Idealize.ShloMosaic.TcCoe

variable {F : FTy → Type} [FloatOps F]

/-! ## The three words of a device -/

/-- Its ring position. -/
abbrev kw (c : Dev nD) : BitVec 32 := BitVec.ofNat 32 (pos c)
/-- Its neighbour in direction `d`. -/
abbrev nw (d : Bool) (c : Dev nD) : BitVec 32 := BitVec.ofNat 32 (tgt d c).val

theorem chk3 (c : Dev nD) : k0_chk3 (kw c) := by revert c; decide +kernel
theorem chk2 (c : Dev nD) : k0_chk2 (nw false c) := by revert c; decide +kernel
theorem chk1 (c : Dev nD) : k0_chk1 (nw true c) := by revert c; decide +kernel

theorem target_nw (c : Dev nD) (d : Bool) : target (nw false c) (nw true c) (chk2 c) (chk1 c) d = tgt d c := by
  apply Fin.ext
  revert c d
  decide +kernel

theorem pos_lt (c : Dev nD) : pos c < 16 := by revert c; decide
theorem pos_src (d : Bool) (c : Dev nD) : pos (src d c) = (pos c + cond d 1 15) % 16 := by revert c d; decide

/-- The number of the row block a rectangle at `k0_off1`, `k0_off2` and a hop's stores begins at. -/
theorem off1_eq (c : Dev nD) : k0_off1 (kw c) = ![256 * pos c, 0] := by
  have h : ∀ c : Fin 16, ∀ a : Fin 2, k0_off1 (kw c) a = (![256 * pos c, 0] : Fin 2 → ℕ) a := by decide +kernel
  exact funext (h c)

/-- The block of rows of `x` that hop `h` multiplies. -/
def xBlk (d : Bool) (h : ℕ) (c : Dev nD) : ℕ := (pos c + cond d (1 + h) (15 - h)) % 16

theorem off2_eq (d : Bool) (c : Dev nD) {h : ℕ} (hh : h < 15) :
    k0_off2 (kw c) (BitVec.ofNat 32 (1 + (xIdx d h).val)) = ![256 * xBlk d h c, 0] := by
  have key : ∀ (d : Bool) (c : Fin 16) (h : Fin 15) (a : Fin 2),
      k0_off2 (kw c) (BitVec.ofNat 32 (1 + (xIdx d h.val).val)) a = (![256 * xBlk d h.val c, 0] : Fin 2 → ℕ) a := by decide +kernel
  exact funext (key d c ⟨h, hh⟩)

/-- The block of rows of the result that hop `h` stores. -/
def oBlk (d : Bool) (h : ℕ) (c : Dev nD) : ℕ := (pos c + cond d (h + 1) (if h = 14 then 1 else 31 - h)) % 16

theorem outOff_eq (d s : Bool) (c : Dev nD) {h : ℕ} (h1 : 14 ≤ h) (h2 : h < 30) :
    outOff d s (kw c) h = ![256 * oBlk d h c, cond d 1024 0 + cond s 512 0] := by
  have key : ∀ (d s : Bool) (c : Fin 16) (h : Fin 16) (a : Fin 2),
      outOff d s (kw c) (14 + h.val) a = (![256 * oBlk d (14 + h.val) c, cond d 1024 0 + cond s 512 0] : Fin 2 → ℕ) a := by decide +kernel
  have := funext (key d s c ⟨h - 14, by omega⟩)
  rwa [show 14 + (h - 14) = h by omega] at this

/-! ## Contents -/

section Contents

variable (xb : Dev nD → FVec F S4096x256 .bf16) (wb : Dev nD → FVec F S256x2048 .bf16)

/-- The rows of a block of `x` at `off`. -/
def xRows (X : FVec F S4096x256 .bf16) (off : Fin 2 → ℕ) (hoff : ∀ a, off a + S256x256.size a ≤ S4096x256.size a) : Vec F S256x256 .bf16 :=
  fun i => X ((Rect.unit (s := S4096x256) off S256x256.size hoff).emb i)

theorem wOff_inb (d : Bool) : ∀ a, (![0, cond d 1024 0] : Fin 2 → ℕ) a + S256x1024.size a ≤ S256x2048.size a :=
  match d with
  | false => inb_S256x2048_S256x1024_0_0
  | true => inb_S256x2048_S256x1024_0_1024

/-- The columns of a block of `w` at `off`. -/
def wCols (W : FVec F S256x2048 .bf16) (off : Fin 2 → ℕ) (hoff : ∀ a, off a + S256x1024.size a ≤ S256x2048.size a) : Vec F S256x1024 .bf16 :=
  fun i => W ((Rect.unit (s := S256x2048) off S256x1024.size hoff).emb i)

/-- The half of a block of `w` that direction `d` multiplies with. -/
def wHalf (W : FVec F S256x2048 .bf16) (d : Bool) : FVec F S256x1024 .bf16 :=
  shapeCast S256x1024 (wCols W ![0, cond d 1024 0] (wOff_inb d)) shapeCasts_S256x1024_S256x1024

/-- The product of hop `h`. -/
def part (d : Bool) (h : ℕ) (c : Dev nD) : FVec F S256x1024 .f32 :=
  prod (wHalf (wb c) d) (xRows (xb c) _ (k0_off2_inb (kw c) (chk3 c) (xIdx d h)))

/-- The product of the beginning. -/
def part0 (d : Bool) (c : Dev nD) : FVec F S256x1024 .f32 := prod (wHalf (wb c) d) (xRows (xb c) _ (k0_off1_inb (kw c) (chk3 c)))

/-- What device `c` sends at send `h` of channel `(d, s)`: its own product first, then what it received with its own product added,
    and from send 15 on the sums of all the devices, passed along. -/
def sent (d s : Bool) : ℕ → Dev nD → FVec F S256x512 .bf16
  | 0, c => first s (part0 xb wb d c)
  | h + 1, c => if h < 15 then truncf .bf16 (summed s (part xb wb d h c) (sent d s h (src d c))) bitsLt_bf16_f32 else sent d s h (src d c)

theorem sent_reduce (d s : Bool) (c : Dev nD) {h : ℕ} (hh : h < 15) :
    sent xb wb d s (h + 1) c = truncf .bf16 (summed s (part xb wb d h c) (sent xb wb d s h (src d c))) bitsLt_bf16_f32 := by
  rw [sent, if_pos hh]
theorem sent_gather (d s : Bool) (c : Dev nD) {h : ℕ} (hh : 15 ≤ h) : sent xb wb d s (h + 1) c = sent xb wb d s h (src d c) := by
  rw [sent, if_neg (by omega)]

/-- What hop `h` stores into the result. -/
def stored (d s : Bool) (h : ℕ) (c : Dev nD) : FVec F S256x512 .f32 :=
  if h = 14 then summed s (part xb wb d 14 c) (sent xb wb d s 14 (src d c)) else extf .f32 (sent xb wb d s h (src d c)) bitsLt_bf16_f32

/-- The hop that stores a block of rows, by the block's distance from the device's ring position. -/
def hopOf (d : Bool) (δ : ℕ) : ℕ := cond d (if δ = 15 then 14 else 15 + δ) (if δ = 1 then 14 else if δ = 0 then 15 else 31 - δ)

theorem hopOf_spec (d : Bool) (c : Dev nD) (r : ℕ) (hr : r < 16) :
    14 ≤ hopOf d ((r + (16 - pos c)) % 16) ∧ hopOf d ((r + (16 - pos c)) % 16) < 30 ∧ oBlk d (hopOf d ((r + (16 - pos c)) % 16)) c = r := by
  have key : ∀ (d : Bool) (c : Fin 16) (r : Fin 16),
      14 ≤ hopOf d ((r.val + (16 - pos c)) % 16) ∧ hopOf d ((r.val + (16 - pos c)) % 16) < 30 ∧ oBlk d (hopOf d ((r.val + (16 - pos c)) % 16)) c = r.val := by decide +kernel
  exact key d c ⟨r, hr⟩
theorem hopOf_oBlk (d : Bool) (c : Dev nD) {h : ℕ} (h1 : 14 ≤ h) (h2 : h < 30) : hopOf d ((oBlk d h c + (16 - pos c)) % 16) = h := by
  have key : ∀ (d : Bool) (c : Fin 16) (h : Fin 16), hopOf d ((oBlk d (14 + h.val) c + (16 - pos c)) % 16) = 14 + h.val := by decide +kernel
  have := key d c ⟨h - 14, by omega⟩
  rwa [show 14 + (h - 14) = h by omega] at this

/-- The element of a stored block that an element of the result is. -/
def inBlk (y : S4096x2048.Idx) : S256x512.Idx := fun a => match a with
  | 0 => ⟨(y 0).val % 256, Nat.mod_lt _ (by decide)⟩
  | 1 => ⟨(y 1).val % 512, Nat.mod_lt _ (by decide)⟩

/-- The result of device `c`. -/
def result (c : Dev nD) : FVec F S4096x2048 .f32 := fun y =>
  stored xb wb (decide (1024 ≤ (y 1).val)) (decide (512 ≤ (y 1).val % 1024))
    (hopOf (decide (1024 ≤ (y 1).val)) (((y 0).val / 256 + (16 - pos c)) % 16)) c (inBlk y)

theorem emb_out (d s : Bool) (c : Dev nD) {h : ℕ} (h1 : 14 ≤ h) (h2 : h < 30) (y : S256x512.Idx) (a : Fin 2) :
    ((Rect.unit (s := S4096x2048) (outOff d s (kw c) h) S256x512.size (outOff_inb d s (kw c) (chk3 c) h)).emb y a).val
      = (![256 * oBlk d h c, cond d 1024 0 + cond s 512 0] : Fin 2 → ℕ) a + (y a).val := by
  rw [← outOff_eq d s c h1 h2]
  show outOff d s (kw c) h a + 1 * (y a).val = _
  rw [Nat.one_mul]

/-- Every store of a hop writes the result's own elements. -/
theorem stored_result (d s : Bool) (c : Dev nD) {h : ℕ} (h1 : 14 ≤ h) (h2 : h < 30) (y : S256x512.Idx) :
    stored xb wb d s h c y = result xb wb c ((Rect.unit (s := S4096x2048) (outOff d s (kw c) h) S256x512.size (outOff_inb d s (kw c) (chk3 c) h)).emb y) := by
  have e0 := emb_out d s c h1 h2 y 0
  have e1 := emb_out d s c h1 h2 y 1
  simp only [Matrix.cons_val_zero, Matrix.cons_val_one] at e0 e1
  have y0 : (y 0).val < 256 := (y 0).isLt
  have y1 : (y 1).val < 512 := (y 1).isLt
  generalize (Rect.unit (s := S4096x2048) (outOff d s (kw c) h) S256x512.size (outOff_inb d s (kw c) (chk3 c) h)).emb y = z at e0 e1
  have hd : decide (1024 ≤ (z 1).val) = d := by
    cases d <;> cases s <;> simp only [cond_true, cond_false] at e1 <;> first
      | exact decide_eq_true (by omega)
      | exact decide_eq_false (by omega)
  have hs : decide (512 ≤ (z 1).val % 1024) = s := by
    cases d <;> cases s <;> simp only [cond_true, cond_false] at e1 <;> first
      | exact decide_eq_true (by omega)
      | exact decide_eq_false (by omega)
  have hr : (z 0).val / 256 = oBlk d h c := by omega
  have hin : inBlk z = y := by
    funext a
    apply Fin.ext
    match a with
    | 0 => show (z 0).val % 256 = _; omega
    | 1 =>
      show (z 1).val % 512 = _
      cases d <;> cases s <;> simp only [cond_true, cond_false] at e1 <;> omega
  unfold result
  rw [hd, hs, hr, hin, hopOf_oBlk d c h1 h2]

/-- Every element of the result is one of some store. -/
theorem covered (c : Dev nD) (z : S4096x2048.Idx) : ∃ d s h, 14 ≤ h ∧ h < 30 ∧ ∃ y : S256x512.Idx,
    (Rect.unit (s := S4096x2048) (outOff d s (kw c) h) S256x512.size (outOff_inb d s (kw c) (chk3 c) h)).emb y = z := by
  have z0 : (z 0).val < 4096 := (z 0).isLt
  have z1 : (z 1).val < 2048 := (z 1).isLt
  obtain ⟨h1, h2, h3⟩ := hopOf_spec (decide (1024 ≤ (z 1).val)) c ((z 0).val / 256) (by omega)
  refine ⟨decide (1024 ≤ (z 1).val), decide (512 ≤ (z 1).val % 1024), _, h1, h2, inBlk z, ?_⟩
  funext a
  apply Fin.ext
  rw [emb_out _ _ c h1 h2]
  match a with
  | 0 =>
    show 256 * oBlk _ _ c + (z 0).val % 256 = (z 0).val
    rw [h3]; omega
  | 1 =>
    show cond _ 1024 0 + cond _ 512 0 + (z 1).val % 512 = (z 1).val
    rw [Bool.cond_decide, Bool.cond_decide]
    split <;> split <;> omega

end Contents

end Cert.Ring16

end
-- ==== Proof.Ring16.Body.lean ====
/-
  The whole body of one device: the barrier, the first products, the thirty hops of the four channels, the last waits.
-/
module

public import proofs.«01_k».proof.Proof.Ring16.Hops
public import proofs.«01_k».proof.Proof.Ring16.Vals

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (msg : Bool → Bool → ℕ → Dev nD → FVec F S256x512 .bf16) (K : GSem nD τ sig → ℕ)

/-! ## What is owed -/

/-- What a device owes for the sends of its last `n` hops. -/
def Rem (c : Dev nD) : ℕ → CellTallies nD τ sig ℕ
  | 0 => 0
  | n + 1 => Rem c n + due true true c (29 - n) + due false true c (29 - n) + due true false c (29 - n) + due false false c (29 - n)

theorem Rem_above (c : Dev nD) : ∀ {n : ℕ}, n ≤ 30 → Above (2 + (30 - n)) (Rem c n)
  | 0, _ => Above.zero _
  | n + 1, hn => by
    have e : 2 + (30 - (n + 1)) = 2 + (29 - n) := by omega
    have h := (Rem_above c (n := n) (by omega)).mono (show 2 + (30 - (n + 1)) ≤ 2 + (30 - n) by omega)
    have hd := fun d s => e ▸ due_above d s c (29 - n)
    exact (((h.add (hd _ _)).add (hd _ _)).add (hd _ _)).add (hd _ _)

theorem Rem_step (c : Dev nD) {h : ℕ} (hh : h < 30) : Rem c (30 - h)
    = Rem c (30 - (h + 1)) + due true true c h + due false true c h + due true false c h + due false false c h := by
  rw [show 30 - h = (30 - (h + 1)) + 1 by omega, Rem, show 29 - (30 - (h + 1)) = h by omega]

/-! ## The slots a device may fill -/

def DstW (d s : Bool) (c : Dev nD) (h : ℕ) : sProp 𝕄 := win (h + 1) (min 30 (max 5 (h + 2))) (fun m => dst d s m c)
def DstR (d s : Bool) (c : Dev nD) (h : ℕ) : sProp 𝕄 := win (h + 2) (min 30 (max 5 (h + 2))) (fun m => dst d s m c)

theorem DstW_pop (d s : Bool) (c : Dev nD) {h : ℕ} (hh : h < 30) :
    (DstW d s c h : sProp 𝕄) = iprop(opt (h < 29) (dst d s (h + 1) c) ∗ DstR d s c h) := by
  unfold DstW DstR
  rcases Nat.lt_or_ge h 29 with h1 | h1
  · rw [opt_pos h1, win_bot (by omega)]
  · rw [opt_neg (by omega), win_nil (by omega), win_nil (by omega)]
    exact (BI.equiv_iff.mp BI.emp_sep).symm

theorem DstW_push (d s : Bool) (c : Dev nD) {h : ℕ} (hh : h < 30) :
    iprop(DstR d s c h ∗ opt (3 ≤ h ∧ h ≤ 27) (dst d s (h + 2) c)) ⊢ (DstW d s c (h + 1) : sProp 𝕄) := by
  unfold DstW DstR
  rw [show h + 1 + 1 = h + 2 by omega]
  rcases Decidable.em (3 ≤ h ∧ h ≤ 27) with h1 | h1
  · rw [opt_pos h1, show min 30 (max 5 (h + 1 + 2)) = (h + 2) + 1 by omega, show min 30 (max 5 (h + 2)) = h + 2 by omega, win_top (Nat.le_refl _)]
    iintro ⟨H1, H2⟩
    isplitl [H2] <;> iassumption
  · rw [opt_neg h1]
    rcases Nat.lt_or_ge h 28 with h2 | h2
    · rw [show min 30 (max 5 (h + 1 + 2)) = min 30 (max 5 (h + 2)) by omega]
      iintro ⟨H, -⟩; iexact H
    · rw [win_nil (show min 30 (max 5 (h + 2)) ≤ h + 2 by omega), win_nil (show min 30 (max 5 (h + 1 + 2)) ≤ h + 2 by omega)]
      iintro -; iempintro

/-! ## An iteration -/

section Iter

variable (out : Memref sig .tc .vmem S4096x2048 .f32) (v0 : BitVec 32) (hw3 : k0_chk3 v0) (G : FVec F S4096x2048 .f32)

/-- A hop that keeps the protocol. -/
def HopOK (c : Dev nD) (h : ℕ) (P : Bool → Bool → Prog (TpuEff nD τ sig (Elt F) Λ₀ .tc) PUnit) : Prop :=
  ∀ (d s : Bool) (D D' : Bool → Bool → ℕ → Prop) (O : CellTallies nD τ sig ℕ), Above (2 + h) O →
    (∀ d' s' k, D' d' s' k → 14 ≤ k → D d' s' k ∨ (d' = d ∧ s' = s ∧ k = h)) → (h < 14 → ∀ d' s' k, D' d' s' k → 14 ≤ k → D d' s' k) →
    ∀ Q : PUnit → sProp 𝕄,
      iprop(ctx msg K ∗ HopPre out v0 hw3 c G D O d s h ∗ (HopPost out v0 hw3 c G D' O d s h -∗ Q ⟨⟩)) ⊢ WP c (P d s) Q

/-- What a device holds of half `s` of both directions before hop `h`. -/
def Half (s : Bool) (c : Dev nD) (h : ℕ) : sProp 𝕄 :=
  iprop(Mine false s c h ∗ Mine true s c h ∗ Cross false s c h ∗ Cross true s c h ∗ DstW false s c h ∗ DstW true s c h)

theorem Mine_reached (d s : Bool) (c : Dev nD) (h n : ℕ) (h1 : h ≤ n) (h2 : n < h + 6) :
    (Mine d s c h : sProp 𝕄) ⊢ iprop(Mine d s c h ∗ reached ER (rc d s c n) (n / 6)) := by
  have hr := Rv_reached (F := F) d s c h n h1 h2
  unfold Mine
  iintro ⟨HV, H⟩
  ihave HV := hr $$ HV
  icases HV with ⟨HV, #Hr⟩
  isplitl [HV H]
  · isplitl [HV] <;> iassumption
  · iexact Hr

/-- Both directions of half `s`. -/
theorem pair_spec (c : Dev nD) {h : ℕ} (hh : h < 30) {P : Bool → Bool → Prog (TpuEff nD τ sig (Elt F) Λ₀ .tc) PUnit} (hP : HopOK msg K out v0 hw3 G c h P)
    (s : Bool) {D D' D'' : Bool → Bool → ℕ → Prop} {O : CellTallies nD τ sig ℕ} (hO : Above (2 + h) O)
    (hD1 : ∀ d' s' k, D' d' s' k → 14 ≤ k → D d' s' k ∨ (d' = false ∧ s' = s ∧ k = h)) (hD1' : h < 14 → ∀ d' s' k, D' d' s' k → 14 ≤ k → D d' s' k)
    (hD2 : ∀ d' s' k, D'' d' s' k → 14 ≤ k → D' d' s' k ∨ (d' = true ∧ s' = s ∧ k = h)) (hD2' : h < 14 → ∀ d' s' k, D'' d' s' k → 14 ≤ k → D' d' s' k)
    {α : Type} (k : PUnit → Prog (TpuEff nD τ sig (Elt F) Λ₀ .tc) α) (Q : α → sProp 𝕄) :
    iprop(ctx msg K ∗ Half s c h ∗ owing c (O + due true s c h + due false s c h) ∗ outAt out v0 hw3 c G D
        ∗ (Half s c (h + 1) ∗ owing c O ∗ outAt out v0 hw3 c G D'' -∗ WP c (k ⟨⟩) Q))
      ⊢ WP c (P false s >>= fun _ => P true s >>= k) Q := by
  have r1 := Mine_reached (F := F) true s c h (h + 3) (by omega) (by omega)
  have r2 := Mine_reached (F := F) false s c (h + 1) (h + 3) (by omega) (by omega)
  have w1 := DstW_push (F := F) false s c hh
  have w2 := DstW_push (F := F) true s c hh
  rw [WP_bind]
  unfold Half
  rw [DstW_pop false s c hh, DstW_pop true s c hh]
  iintro ⟨#HI, ⟨MF, MT, XF, XT, ⟨DF, RF⟩, DT, RT⟩, HO, Hout, Hk⟩
  ihave MT := r1 $$ MT
  icases MT with ⟨MT, #HrT⟩
  iapply (hP false s D D' (O + due true s c h) (hO.add (due_above true s c h)) hD1 hD1')
  isplitr; · iexact HI
  isplitl [MF XT DF HO Hout]
  · unfold HopPre
    isplitl [MF]; · iexact MF
    isplitl [XT]; · iexact XT
    isplitl [DF]; · iexact DF
    isplitr; · iexact HrT
    isplitl [HO] <;> iassumption
  unfold HopPost
  iintro ⟨MF, XF', DT', HO, Hout⟩
  ihave MF := r2 $$ MF
  icases MF with ⟨MF, #HrF⟩
  rw [WP_bind]
  iapply (hP true s D' D'' O hO hD2 hD2')
  isplitr; · iexact HI
  isplitl [MT XF DT HO Hout]
  · unfold HopPre
    isplitl [MT]; · iexact MT
    isplitl [XF]; · iexact XF
    isplitl [DT]; · iexact DT
    isplitr; · iexact HrF
    isplitl [HO] <;> iassumption
  unfold HopPost
  iintro ⟨MT, XT', DF', HO, Hout⟩
  iapply Hk
  isplitl [MF MT XF' XT' RF DF' RT DT']
  · isplitl [MF]; · iexact MF
    isplitl [MT]; · iexact MT
    isplitl [XF']; · iexact XF'
    isplitl [XT']; · iexact XT'
    isplitl [RF DF']
    · iapply w1
      isplitl [RF]; · iexact RF
      iexact DF'
    · iapply w2
      isplitl [RT]; · iexact RT
      iexact DT'
  isplitl [HO] <;> iassumption

/-- What a device holds before iteration `h`. -/
def It (c : Dev nD) (h : ℕ) : sProp 𝕄 :=
  iprop(Half false c h ∗ Half true c h ∗ owing c (Rem c (30 - h)) ∗ outAt out v0 hw3 c G (fun _ _ k => k < h))

theorem iter_spec (c : Dev nD) {h : ℕ} (hh : h < 30) {P : Bool → Bool → Prog (TpuEff nD τ sig (Elt F) Λ₀ .tc) PUnit} (hP : HopOK msg K out v0 hw3 G c h P)
    (Q : PUnit → sProp 𝕄) :
    iprop(ctx msg K ∗ It out v0 hw3 G c h ∗ (It out v0 hw3 G c (h + 1) -∗ Q ⟨⟩))
      ⊢ WP c (P false false >>= fun _ => P true false >>= fun _ => P false true >>= fun _ => P true true) Q := by
  unfold It
  rw [Rem_step c hh, show (P false true >>= fun _ => P true true) = (P false true >>= fun _ => P true true >>= fun _ => pure ⟨⟩) from by
    simp only [bind_pure_comp, id_map']]
  iintro ⟨#HI, ⟨H0, H1, HO, Hout⟩, Hk⟩
  have hR := (Rem_above c (n := 30 - (h + 1)) (by omega)).mono (show 2 + h ≤ 2 + (30 - (30 - (h + 1))) by omega)
  iapply (pair_spec msg K out v0 hw3 G c hh hP false (D := fun _ _ k => k < h) (D' := fun d s k => k < h ∨ (d = false ∧ s = false ∧ k = h))
    (D'' := fun d s k => k < h ∨ (s = false ∧ k = h)) ((hR.add (due_above true true c h)).add (due_above false true c h))
    (fun d s k hk _ => hk) (fun h14 d s k hk h1 => by omega)
    (fun d s k hk _ => by rcases hk with hk | ⟨rfl, rfl⟩ <;> [exact .inl (.inl hk); cases d <;> [exact .inl (.inr ⟨rfl, rfl, rfl⟩); exact .inr ⟨rfl, rfl, rfl⟩]])
    (fun h14 d s k hk h1 => by omega))
  isplitr; · iexact HI
  isplitl [H0]; · iexact H0
  isplitl [HO]; · iexact HO
  isplitl [Hout]; · iexact Hout
  iintro ⟨H0, HO, Hout⟩
  iapply (pair_spec msg K out v0 hw3 G c hh hP true (D := fun d s k => k < h ∨ (s = false ∧ k = h)) (D' := fun d s k => k < h ∨ (s = false ∧ k = h) ∨ (d = false ∧ s = true ∧ k = h))
    (D'' := fun _ _ k => k < h + 1) hR
    (fun d s k hk _ => by rcases hk with hk | hk | hk <;> [exact .inl (.inl hk); exact .inl (.inr hk); exact .inr hk]) (fun h14 d s k hk h1 => by omega)
    (fun d s k hk _ => by
      rcases Nat.lt_or_ge k h with h1 | h1
      · exact .inl (.inl h1)
      · obtain rfl : k = h := by omega
        cases s <;> cases d
        · exact .inl (.inr (.inl ⟨rfl, rfl⟩))
        · exact .inl (.inr (.inl ⟨rfl, rfl⟩))
        · exact .inl (.inr (.inr ⟨rfl, rfl, rfl⟩))
        · exact .inr ⟨rfl, rfl, rfl⟩)
    (fun h14 d s k hk h1 => by omega))
  isplitr; · iexact HI
  isplitl [H1]; · iexact H1
  isplitl [HO]; · iexact HO
  isplitl [Hout]; · iexact Hout
  iintro ⟨H1, HO, Hout⟩
  iapply (WP_pure (F := F) c)
  iapply Hk
  isplitl [H0]; · iexact H0
  isplitl [H1]; · iexact H1
  isplitl [HO] <;> iassumption

/-- `n` iterations in a row, each carrying a state `S` on. -/
theorem iters_spec (c : Dev nD) (C : sProp 𝕄) [BI.Persistent C] (S : ℕ → sProp 𝕄) (f : ℕ → Prog (TpuEff nD τ sig (Elt F) Λ₀ .tc) PUnit) : ∀ (n h : ℕ),
    (∀ i, h ≤ i → i < h + n → ∀ Q : PUnit → sProp 𝕄, iprop(C ∗ S i ∗ (S (i + 1) -∗ Q ⟨⟩)) ⊢ WP c (f i) Q) → ∀ Q : PUnit → sProp 𝕄,
    iprop(C ∗ S h ∗ (S (h + n) -∗ Q ⟨⟩)) ⊢ WP c (iters f n h) Q
  | 0, h, _, Q => by
    iintro ⟨-, H, Hk⟩
    iapply (WP_pure (F := F) c)
    iapply Hk
    iexact H
  | n + 1, h, hf, Q => by
    have ih := iters_spec c C S f n (h + 1) (fun i h1 h2 => hf i (by omega) (by omega)) Q
    rw [show h + 1 + n = h + (n + 1) by omega] at ih
    show _ ⊢ WP c (f h >>= fun _ => iters f n (h + 1)) Q
    rw [WP_bind]
    iintro ⟨#HI, H, Hk⟩
    iapply (hf h (by omega) (by omega))
    isplitr; · iexact HI
    isplitl [H]; · iexact H
    iintro H
    iapply ih
    isplitr; · iexact HI
    isplitl [H] <;> iassumption

end Iter

end Cert.Ring16

end
-- ==== Proof.Ring16.Talk.lean ====
/-
  The whole talk of one device, from what the launch hands it to what the region gives back.
-/
module

public import proofs.«01_k».proof.Proof.Ring16.Body

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

variable (msg : Bool → Bool → ℕ → Dev nD → FVec F S256x512 .bf16) (K : GSem nD τ sig → ℕ)

/-! ## The barrier -/

theorem signal_spec (c c' : Dev nD) (b : Bool) (O : CellTallies nD τ sig ℕ) (Q : PUnit → sProp 𝕄) :
    iprop(ctx msg K ∗ dutyTok ER (barCell c') 0 b ∗ barPay b c' ∗ owing c (O + tallyAt (barCell c') 0 1) ∗ (owing c O -∗ Q ⟨⟩))
      ⊢ WP c (semSignalWord c' barSem 1#32) Q := by
  unfold ctx owing semSignalWord
  iintro ⟨⟨#HI, #Hr, -⟩, Ht, Hp, ⟨%W, HO⟩, Hk⟩
  iapply (Rounds.wp_signal 𝒱₀ ER (Rd msg) (c : Thread nD τ) none (dst := (c' : Thread nD τ)) (sem := barSem) (r := 0) (d := b) (k' := 1) (κ := K (barCell c'))
    (by rw [duties_bar msg c']; exact Finset.mem_univ _) rfl 0 (O₀ := O + tallyAt (barCell c') 0 1) O rfl (W := W) (Es := Set.univ)) $$ [HO Ht Hp]
  · isplitr; · iapply (inv_at msg K (bar_mem c')); iexact HI
    isplitl [HO]; · iexact HO
    isplitl [Ht]; · iexact Ht
    isplitl [Hp]
    · rw [payload_bar msg c' b]; iexact Hp
    · iapply (reached_at (F := F) c'); iexact Hr
  iintro HO
  rw [wp_ret]; imodintro
  iapply Hk
  iexists W; iexact HO

theorem barWait_spec (c : Dev nD) {O : CellTallies nD τ sig ℕ} (hO : Above 1 O) (Q : PUnit → sProp 𝕄) :
    iprop(ctx msg K ∗ atPos ER (barCell c) 0 ∅ 0 ∗ cred (tallyAt (barCell c) 0 2) ∗ owing c O
        ∗ (atPos ER (barCell c) 1 ∅ 0 ∗ barPay true c ∗ barPay false c ∗ owing c O -∗ Q ⟨⟩))
      ⊢ WP c (semWaitWord barSem 2#32) Q := by
  unfold ctx owing semWaitWord
  iintro ⟨⟨#HI, -, #Hlev⟩, Hat, Hc, ⟨%W, HO⟩, Hk⟩
  iapply (Rounds.wp_wait_rest_token 𝒱₀ ER (Rd msg) (c : Thread nD τ) none (κ := K (barCell c)) (Es := Set.univ)
      (w := .semWait barSem 2) (sm := .reg barSem) (k' := 2)
      (fun K' => wpE_semWait_eq 𝒱₀ (c : Thread nD τ) none Set.univ K')
      (Set.mem_univ _) 0 (O := O) (W := W) (R := 0) (m := 0) (T := ∅) ((Nat.zero_add _).trans (expect_bar msg c).symm)) $$ [Hc HO Hat]
  · isplitr; · iapply (inv_at msg K (bar_mem c)); iexact HI
    isplitl [Hc]; · iexact Hc
    isplitl [HO]; · iexact HO
    isplitr
    · have h1 : lv (barCell c) 0 ≤ 1 := Nat.le_of_eq (lv_bar c 0)
      have h2 := mayWait (F := F) c (.reg barSem) 0 (by omega) h1 hO
      iapply h2; iexact Hlev
    iexact Hat
  iintro ⟨HO, Hat, -, Hpay⟩
  ihave Hpay := (Entails.of_eq (rest_bar msg c)) $$ Hpay
  icases Hpay with ⟨Ht, Hf⟩
  rw [wp_ret]; imodintro
  iapply Hk
  isplitl [Hat]; · iexact Hat
  isplitl [Ht]; · iexact Ht
  isplitl [Hf]; · iexact Hf
  iexists _; iexact HO

theorem win_shift (A : ℕ → sProp 𝕄) : win 1 6 A ⊢ bigSep (Finset.range 5) (fun m => A (m + 1)) := by
  rw [win_bot (by omega), win_bot (by omega), win_bot (by omega), win_bot (by omega), win_bot (by omega), win_nil (by omega),
    bigSep_range_succ, bigSep_range_succ, bigSep_range_succ, bigSep_range_succ, bigSep_range_succ, Finset.range_zero, bigSep_empty]
  iintro ⟨H1, H2, H3, H4, H5, -⟩
  isplitl [H5]; · iexact H5
  isplitl [H4]; · iexact H4
  isplitl [H3]; · iexact H3
  isplitl [H2]; · iexact H2
  isplitl [H1]; · iexact H1
  iempintro

theorem Rv_reached5 (d s : Bool) (c : Dev nD) :
    (Rv d s c 0 : sProp 𝕄) ⊢ iprop(Rv d s c 0 ∗ bigSep (Finset.range 5) (fun m => reached ER (rc d s c m) (m / 6))) := by
  have h0 := Rv_reached (F := F) d s c 0 0 (by omega) (by omega)
  have h1 := Rv_reached (F := F) d s c 0 1 (by omega) (by omega)
  have h2 := Rv_reached (F := F) d s c 0 2 (by omega) (by omega)
  have h3 := Rv_reached (F := F) d s c 0 3 (by omega) (by omega)
  have h4 := Rv_reached (F := F) d s c 0 4 (by omega) (by omega)
  rw [bigSep_range_succ, bigSep_range_succ, bigSep_range_succ, bigSep_range_succ, bigSep_range_succ, Finset.range_zero, bigSep_empty]
  iintro H
  ihave H := h0 $$ H
  icases H with ⟨H, #R0⟩
  ihave H := h1 $$ H
  icases H with ⟨H, #R1⟩
  ihave H := h2 $$ H
  icases H with ⟨H, #R2⟩
  ihave H := h3 $$ H
  icases H with ⟨H, #R3⟩
  ihave H := h4 $$ H
  icases H with ⟨H, #R4⟩
  isplitl [H]; · iexact H
  isplitr; · iexact R4
  isplitr; · iexact R3
  isplitr; · iexact R2
  isplitr; · iexact R1
  isplitr; · iexact R0
  iempintro

/-- What a device pays a neighbour at the barrier: five slots of both halves of the direction that neighbour sends to it in. -/
theorem barPay_intro (d : Bool) (c : Dev nD) :
    iprop(Rv d false c 0 ∗ Rv d true c 0 ∗ win 1 6 (fun j => slotAny d false c j fullShare) ∗ win 1 6 (fun j => slotAny d true c j fullShare))
      ⊢ (iprop(Rv d false c 0 ∗ Rv d true c 0 ∗ barPay d (tgt (!d) c)) : sProp 𝕄) := by
  have r0 := Rv_reached5 (F := F) d false c
  have r1 := Rv_reached5 (F := F) d true c
  have s0 := win_shift (F := F) (fun j => slotAny d false c j fullShare)
  have s1 := win_shift (F := F) (fun j => slotAny d true c j fullShare)
  unfold barPay dst
  rw [show tgt d (tgt (!d) c) = c from tgt_src d c]
  rw [bigSep_sep', bigSep_sep', bigSep_sep']
  iintro ⟨V0, V1, S0, S1⟩
  ihave V0 := r0 $$ V0
  icases V0 with ⟨V0, R0⟩
  ihave V1 := r1 $$ V1
  icases V1 with ⟨V1, R1⟩
  isplitl [V0]; · iexact V0
  isplitl [V1]; · iexact V1
  isplitl [S0 R0]
  · isplitl [S0]; · iapply s0; iexact S0
    iexact R0
  · isplitl [S1]; · iapply s1; iexact S1
    iexact R1

theorem barPay_elim (d : Bool) (c : Dev nD) :
    (barPay d c : sProp 𝕄) ⊢ iprop((dst d false 0 c ∗ DstW d false c 0) ∗ (dst d true 0 c ∗ DstW d true c 0)) := by
  unfold barPay DstW
  rw [bigSep_sep', show Finset.range 5 = Finset.Ico 0 5 from Finset.range_eq_Ico 5]
  show iprop(win 0 5 (fun m => dst d false m c) ∗ win 0 5 (fun m => dst d true m c)) ⊢ _
  rw [win_bot (show 0 < 5 by omega), win_bot (show 0 < 5 by omega)]
  exact Entails.refl _

/-! ## The first sends -/

theorem send0_spec (d s : Bool) (c : Dev nD) (O : CellTallies nD τ sig ℕ) (Q : PUnit → sProp 𝕄) :
    iprop(ctx msg K ∗ slotAt d s c 0 fullShare (msg d s 0 c) ∗ dst d s 0 c ∗ win 0 6 (scPos d s c) ∗ (win 0 30 (rcTok d s c) ∗ win 0 30 (scTok d s c))
        ∗ owing c (O + tallyAt (rc d s (tgt d c) 0) 0 N)
        ∗ (Sw d s c 0 (min (0 + 1) 30) ∗ Tk d s c 0 ∗ Rt d s c (min (0 - 1) 25) (min (0 + 1) 30) ∗ owing c O -∗ Q ⟨⟩))
      ⊢ WP c ((chs d s).send (tgt d c) 0) Q := by
  have hr := Sw_reached (F := F) d s c 0 0 0 (by omega) (by omega)
  have hA : (iprop(emp) : sProp 𝕄) ⊢ along d s 0 c := by
    unfold along
    rw [opt_neg (by omega), opt_neg (by omega)]
    iintro -
    isplitr <;> iempintro
  have hS : (win 0 6 (scPos d s c) : sProp 𝕄) ⊢ Sw d s c 0 0 := by
    unfold Sw
    rw [win_nil (show 0 ≤ 0 - 5 by omega) (scCred d s c)]
    iintro H
    isplitl [H]; · iexact H
    iempintro
  have hS1 : iprop(Sw d s c 0 0 ∗ scCred d s c 0) ⊢ (Sw d s c 0 (min (0 + 1) 30) : sProp 𝕄) := by
    unfold Sw
    rw [show min (0 + 1) 30 = 0 + 1 from rfl, win_top (show 0 - 5 ≤ 0 by omega) (scCred d s c)]
    iintro ⟨⟨H1, H2⟩, H3⟩
    isplitl [H1]; · iexact H1
    isplitl [H3] <;> iassumption
  have hR : (slotAny d s c 0 Rh : sProp 𝕄) ⊢ Rt d s c (min (0 - 1) 25) (min (0 + 1) 30) := by
    unfold Rt
    rw [show min (0 + 1) 30 = 0 + 1 from rfl, show min (0 - 1) 25 = 0 from rfl, win_top (show 0 ≤ 0 by omega) (fun m => slotAny d s c m Rh),
      win_nil (show 0 ≤ 0 by omega) (fun m => slotAny d s c m Rh)]
    iintro H
    isplitl [H]; · iexact H
    iempintro
  unfold Tk
  rw [win_bot (show 0 < 30 by omega) (rcTok d s c), win_bot (show 0 < 30 by omega) (scTok d s c)]
  iintro ⟨#HI, Hs, Hd, HS, ⟨⟨Ht2, Ht2s⟩, Ht1, Ht1s⟩, HO, Hk⟩
  ihave HS := hS $$ HS
  ihave HS := hr $$ HS
  icases HS with ⟨HS, #Hr⟩
  iapply (send_spec msg K d s c (show 0 < 30 by omega) O)
  isplitr; · iexact HI
  isplitl [Hs]; · iexact Hs
  isplitl [Hd]; · iexact Hd
  isplitl [Ht1]; · iexact Ht1
  isplitr; · iexact Hr
  isplitl [Ht2]; · iexact Ht2
  isplitl [HO]; · iexact HO
  isplitr; · iapply hA; iempintro
  iintro ⟨Hc, Hs, HO⟩
  iapply Hk
  isplitl [HS Hc]
  · iapply hS1
    isplitl [HS] <;> iassumption
  isplitl [Ht1s Ht2s]; · isplitl [Ht2s] <;> iassumption
  isplitl [Hs]
  · iapply hR; iapply (slotAt_any d s c); iexact Hs
  iexact HO

/-! ## The last waits -/

/-- What a device holds of a channel between the last waits. -/
def Dr (d s : Bool) (c : Dev nD) (m : ℕ) : sProp 𝕄 :=
  iprop(win m (m + 6) (scPos d s c) ∗ win m 30 (scCred d s c) ∗ Rt d s c m 30 ∗ win 25 m (fun j => slotAny d s c j fullShare) ∗ owing c 0)

theorem drain_spec (d s : Bool) (c : Dev nD) (Q : PUnit → sProp 𝕄) :
    iprop(ctx msg K ∗ Dr d s c 25 ∗ (Dr d s c 30 -∗ Q ⟨⟩)) ⊢ WP c (drain chs d s) Q := by
  refine iters_spec (F := F) c (ctx msg K) (Dr d s c) (fun h => (chs d s).waitSend h) 5 25 (fun m h1 h2 Q => ?_) Q
  have hj := slot_join (F := F) d s c m
  unfold Dr Rt
  rw [win_bot (show m < m + 6 by omega), win_bot (show m < 30 by omega), win_bot (show m < 30 by omega), show m + 1 + 6 = (m + 6) + 1 by omega,
    win_top (show m + 1 ≤ m + 6 by omega), win_top (show 25 ≤ m by omega)]
  iintro ⟨#HI, ⟨⟨Hp, Hps⟩, ⟨Hc, Hcs⟩, ⟨Hr, Hrs⟩, Hf, HO⟩, Hk⟩
  iapply (waitSend_spec msg K d s c (show m < 30 by omega) (Above.zero 0))
  isplitr; · iexact HI
  isplitl [Hp]; · iexact Hp
  isplitl [Hc]; · iexact Hc
  isplitl [HO]; · iexact HO
  unfold sndPay
  rw [opt_pos h1]
  iintro ⟨Hp, Hl, HO⟩
  iapply Hk
  isplitl [Hp Hps]; · isplitl [Hp] <;> iassumption
  isplitl [Hcs]; · iexact Hcs
  isplitl [Hrs]; · iexact Hrs
  isplitl [Hl Hr Hf]
  · isplitl [Hl Hr]
    · iapply hj
      isplitl [Hl] <;> iassumption
    · iexact Hf
  iexact HO

end Cert.Ring16

end
-- ==== Proof.Ring16.Device.lean ====
/-
  One device's whole run, with its values.
-/
module

public import proofs.«01_k».proof.Proof.Ring16.Talk

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

section Device

variable (xb : Dev nD → FVec F S4096x256 .bf16) (wb : Dev nD → FVec F S256x2048 .bf16) (K : GSem nD τ sig → ℕ)
variable (x : Memref sig .tc .vmem S4096x256 .bf16) (w : Memref sig .tc .vmem S256x2048 .bf16) (out : Memref sig .tc .vmem S4096x2048 .f32)

/-! ## Loads of the operands -/

theorem loadX_spec (c : Dev nD) (X : FVec F S4096x256 .bf16) (off : Fin 2 → ℕ) (hoff : ∀ a, off a + S256x256.size a ≤ S4096x256.size a) (Q : Vec F S256x256 .bf16 → sProp 𝕄) :
    iprop(owns (Val := Elt F) (c : Thread nD τ) x fullShare X ∗ (owns (Val := Elt F) (c : Thread nD τ) x fullShare X -∗ Q (xRows X off hoff)))
      ⊢ WP c (loadX x off hoff) Q := by
  unfold owns loadX
  iintro ⟨⟨%f, %hf, H⟩, Hk⟩
  iapply (wp_load_rect 𝒱₀ (c : Thread nD τ) none Set.univ (m := x) (r := Rect.unit (s := S4096x256) off S256x256.size hoff) (S := x.view.set) (q := fullShare) (f := f)
    (View.set_slice_subset _ _)) $$ [H]
  · iexact H
  iintro H
  rw [wp_ret]; imodintro
  rw [show (x.access (Rect.unit (s := S4096x256) off S256x256.size hoff)).read (Elt F) f = xRows X off hoff from by rw [← hf]; rfl]
  iapply Hk
  iexists f; isplitr; · ipureintro; exact hf
  iexact H

theorem loadW_spec (c : Dev nD) (W : FVec F S256x2048 .bf16) (off : Fin 2 → ℕ) (hoff : ∀ a, off a + S256x1024.size a ≤ S256x2048.size a) (Q : Vec F S256x1024 .bf16 → sProp 𝕄) :
    iprop(owns (Val := Elt F) (c : Thread nD τ) w fullShare W
        ∗ (owns (Val := Elt F) (c : Thread nD τ) w fullShare W -∗ Q (wCols W off hoff)))
      ⊢ WP c (Prog.lift (.load w (Rect.unit (s := S256x2048) off S256x1024.size hoff).toLoadRect (View.loadsAt_vmem h_S256x1024))) Q := by
  unfold owns
  iintro ⟨⟨%f, %hf, H⟩, Hk⟩
  iapply (wp_load_rect 𝒱₀ (c : Thread nD τ) none Set.univ (m := w) (r := Rect.unit (s := S256x2048) off S256x1024.size hoff) (S := w.view.set) (q := fullShare) (f := f)
    (View.set_slice_subset _ _)) $$ [H]
  · iexact H
  iintro H
  rw [wp_ret]; imodintro
  rw [show (w.access (Rect.unit (s := S256x2048) off S256x1024.size hoff)).read (Elt F) f = wCols W off hoff from by rw [← hf]; rfl]
  iapply Hk
  iexists f; isplitr; · ipureintro; exact hf
  iexact H

/-- Both halves of slot 0 filled. -/
theorem fill_spec (c : Dev nD) (d : Bool) (Q : PUnit → sProp 𝕄) :
    iprop(owns (Val := Elt F) (c : Thread nD τ) x fullShare (xb c) ∗ slotAny d false c 0 fullShare ∗ slotAny d true c 0 fullShare
        ∗ (owns (Val := Elt F) (c : Thread nD τ) x fullShare (xb c) ∗ slotAt d false c 0 fullShare (sent xb wb d false 0 c) ∗ slotAt d true c 0 fullShare (sent xb wb d true 0 c) -∗ Q ⟨⟩))
      ⊢ WP c (fill x chs (kw c) (chk3 c) d (wHalf (wb c) d)) Q := by
  unfold fill
  rw [WP_bind]
  iintro ⟨Hx, H0, H1, Hk⟩
  iapply (loadX_spec x c (xb c))
  isplitl [Hx]; · iexact Hx
  iintro Hx
  unfold slotAny
  icases H0 with ⟨%Y0, H0⟩
  icases H1 with ⟨%Y1, H1⟩
  rw [WP_bind]
  iapply (loadSlot_spec d false c)
  isplitl [H0]; · iexact H0
  iintro %v %hv H0
  rw [WP_bind]
  iapply (storeSlot_spec d false c)
  isplitl [H0]; · iapply (slotAt_any d false c); iexact H0
  iintro H0
  rw [WP_bind]
  iapply (loadSlot_spec d true c)
  isplitl [H1]; · iexact H1
  iintro %v' %hv' H1
  iapply (storeSlot_spec d true c)
  isplitl [H1]; · iapply (slotAt_any d true c); iexact H1
  iintro H1
  iapply Hk
  isplitl [Hx]; · iexact Hx
  isplitl [H0]; · iexact H0
  iexact H1

/-! ## The hops keep the protocol -/

theorem reduceOK (c : Dev nD) {h : ℕ} (hh : h < 15) :
    HopOK (sent xb wb) K out (kw c) (chk3 c) (result xb wb c) c h
      (fun d s => hopReduce out chs (kw c) (nw false c) (nw true c) (chk3 c) (chk2 c) (chk1 c) d s h (part xb wb d h c)) := by
  intro d s D D' O hO hD hD' Q
  refine hopReduce_spec (sent xb wb) K out (kw c) _ _ (chk3 c) (chk2 c) (chk1 c) c (result xb wb c) d s hh (target_nw c d) hO _
    (sent_reduce xb wb d s c hh) (fun h14 y => ?_) hD hD' Q
  subst h14
  rw [← stored_result xb wb d s c (by omega) (by omega) y, stored, if_pos rfl]

theorem gatherOK (c : Dev nD) {h : ℕ} (h15 : 15 ≤ h) (hh : h < 30) :
    HopOK (sent xb wb) K out (kw c) (chk3 c) (result xb wb c) c h
      (fun d s => hopGather out chs (kw c) (nw false c) (nw true c) (chk3 c) (chk2 c) (chk1 c) d s h) := by
  intro d s D D' O hO hD hD' Q
  refine hopGather_spec (sent xb wb) K out (kw c) _ _ (chk3 c) (chk2 c) (chk1 c) c (result xb wb c) d s h15 hh (target_nw c d) hO
    (fun _ => sent_gather xb wb d s c h15) (fun y => ?_) hD Q
  rw [← stored_result xb wb d s c (by omega) hh y, stored, if_neg (by omega)]

theorem iterReduce_spec (c : Dev nD) {h : ℕ} (hh : h < 15) (Q : PUnit → sProp 𝕄) :
    iprop(ctx (sent xb wb) K ∗ (It out (kw c) (chk3 c) (result xb wb c) c h ∗ owns (Val := Elt F) (c : Thread nD τ) x fullShare (xb c))
        ∗ ((It out (kw c) (chk3 c) (result xb wb c) c (h + 1) ∗ owns (Val := Elt F) (c : Thread nD τ) x fullShare (xb c)) -∗ Q ⟨⟩))
      ⊢ WP c (iterReduce x out chs (kw c) (nw false c) (nw true c) (chk3 c) (chk2 c) (chk1 c) (wHalf (wb c) false) (wHalf (wb c) true) h) Q := by
  unfold iterReduce
  rw [WP_bind]
  iintro ⟨#HI, ⟨HIt, Hx⟩, Hk⟩
  iapply (loadX_spec x c (xb c))
  isplitl [Hx]; · iexact Hx
  iintro Hx
  rw [WP_bind]
  iapply (loadX_spec x c (xb c))
  isplitl [Hx]; · iexact Hx
  iintro Hx
  have hs := iter_spec (sent xb wb) K out (kw c) (chk3 c) (result xb wb c) c (show h < 30 by omega) (reduceOK xb wb K out c hh) Q
  iapply hs
  isplitr; · iexact HI
  isplitl [HIt]; · iexact HIt
  iintro HIt
  iapply Hk
  isplitl [HIt] <;> iassumption

theorem iterGather_spec (c : Dev nD) {h : ℕ} (h15 : 15 ≤ h) (hh : h < 30) (Q : PUnit → sProp 𝕄) :
    iprop(ctx (sent xb wb) K ∗ It out (kw c) (chk3 c) (result xb wb c) c h ∗ (It out (kw c) (chk3 c) (result xb wb c) c (h + 1) -∗ Q ⟨⟩))
      ⊢ WP c (iterGather out chs (kw c) (nw false c) (nw true c) (chk3 c) (chk2 c) (chk1 c) h) Q :=
  iter_spec (sent xb wb) K out (kw c) (chk3 c) (result xb wb c) c hh (gatherOK xb wb K out c h15 hh) Q

/-! ## The whole -/

/-- A channel as the launch hands it over. -/
def Ch0 (d s : Bool) (c : Dev nD) : sProp 𝕄 :=
  iprop(Rv d s c 0 ∗ win 0 6 (scPos d s c) ∗ (win 0 30 (rcTok d s c) ∗ win 0 30 (scTok d s c)) ∗ win 0 6 (fun j => slotAny d s c j fullShare))
/-- A channel at the end. -/
def Ch1 (d s : Bool) (c : Dev nD) : sProp 𝕄 :=
  iprop(win 30 36 (rcPos d s c) ∗ win 30 36 (scPos d s c) ∗ slotAny d s c 30 fullShare ∗ win 25 30 (fun j => slotAny d s c j fullShare))

/-- What a device owes at launch. -/
def O₀ (c : Dev nD) : CellTallies nD τ sig ℕ :=
  Rem c 30 + tallyAt (rc true true (tgt true c) 0) 0 N + tallyAt (rc true false (tgt true c) 0) 0 N
    + tallyAt (rc false true (tgt false c) 0) 0 N + tallyAt (rc false false (tgt false c) 0) 0 N
    + tallyAt (barCell (tgt false c)) 0 1 + tallyAt (barCell (tgt true c)) 0 1

def talkPre (c : Dev nD) : sProp 𝕄 :=
  iprop(atPos ER (barCell c) 0 ∅ 0 ∗ cred (tallyAt (barCell c) 0 2) ∗ dutyTok ER (barCell (tgt true c)) 0 false ∗ dutyTok ER (barCell (tgt false c)) 0 true
    ∗ (Ch0 false false c ∗ Ch0 false true c) ∗ (Ch0 true false c ∗ Ch0 true true c) ∗ owing c (O₀ c)
    ∗ owns (Val := Elt F) (c : Thread nD τ) x fullShare (xb c) ∗ owns (Val := Elt F) (c : Thread nD τ) w fullShare (wb c)
    ∗ ∃ Y, owns (Val := Elt F) (c : Thread nD τ) out fullShare Y)

def talkPost (c : Dev nD) : sProp 𝕄 :=
  iprop(atPos ER (barCell c) 1 ∅ 0
    ∗ (Ch1 false false c ∗ Ch1 false true c) ∗ (Ch1 true false c ∗ Ch1 true true c) ∗ owing c 0
    ∗ owns (Val := Elt F) (c : Thread nD τ) x fullShare (xb c) ∗ owns (Val := Elt F) (c : Thread nD τ) w fullShare (wb c)
    ∗ owns (Val := Elt F) (c : Thread nD τ) out fullShare (result xb wb c))

theorem Half0_intro (s : Bool) (c : Dev nD) :
    iprop((Rv false s c 0 ∗ Sw false s c 0 (min (0 + 1) 30) ∗ Tk false s c 0 ∗ Rt false s c (min (0 - 1) 25) (min (0 + 1) 30) ∗ DstW false s c 0)
        ∗ (Rv true s c 0 ∗ Sw true s c 0 (min (0 + 1) 30) ∗ Tk true s c 0 ∗ Rt true s c (min (0 - 1) 25) (min (0 + 1) 30) ∗ DstW true s c 0))
      ⊢ (Half s c 0 : sProp 𝕄) := by
  unfold Half Mine Cross
  rw [opt_neg (show ¬ 30 ≤ 0 by omega), opt_neg (show ¬ 30 ≤ 0 by omega), opt_neg (by omega), opt_neg (by omega), opt_neg (by omega), opt_neg (by omega)]
  iintro ⟨⟨A1, A2, A3, A4, A5⟩, B1, B2, B3, B4, B5⟩
  isplitl [A1 A2 A3 A4]
  · isplitl [A1]; · iexact A1
    isplitl [A2]; · iexact A2
    isplitl [A3]; · iexact A3
    isplitl [A4]; · iexact A4
    iempintro
  isplitl [B1 B2 B3 B4]
  · isplitl [B1]; · iexact B1
    isplitl [B2]; · iexact B2
    isplitl [B3]; · iexact B3
    isplitl [B4]; · iexact B4
    iempintro
  isplitr; · isplitr <;> iempintro
  isplitr; · isplitr <;> iempintro
  isplitl [A5]; · iexact A5
  iexact B5

/-- What is left of a channel after the hops but for the last sends. -/
theorem Mine_end (d s : Bool) (c : Dev nD) :
    (Mine d s c 30 : sProp 𝕄) ⊢ iprop((win 30 36 (rcPos d s c) ∗ slotAny d s c 30 fullShare)
      ∗ (win 25 (25 + 6) (scPos d s c) ∗ win 25 30 (scCred d s c) ∗ Rt d s c 25 30)) := by
  unfold Mine Rv Sw
  rw [opt_pos (Nat.le_refl 30)]
  iintro ⟨⟨H1, -⟩, ⟨H2, H3⟩, -, H4, H5⟩
  isplitl [H1 H5]; · isplitl [H1] <;> iassumption
  isplitl [H2]; · iexact H2
  isplitl [H3]; · iexact H3
  iexact H4

theorem drain_end (d s : Bool) (c : Dev nD) {α : Type} (k : PUnit → Prog (TpuEff nD τ sig (Elt F) Λ₀ .tc) α) (Q : α → sProp 𝕄) :
    iprop(ctx (sent xb wb) K ∗ Mine d s c 30 ∗ owing c 0 ∗ (Ch1 d s c ∗ owing c 0 -∗ WP c (k ⟨⟩) Q)) ⊢ WP c (drain chs d s >>= k) Q := by
  have he := Mine_end (F := F) d s c
  rw [WP_bind]
  iintro ⟨#HI, HM, HO, Hk⟩
  ihave HM := he $$ HM
  icases HM with ⟨⟨H1, H5⟩, H2, H3, H4⟩
  iapply (drain_spec (sent xb wb) K d s c)
  isplitr; · iexact HI
  isplitl [H2 H3 H4 HO]
  · unfold Dr
    isplitl [H2]; · iexact H2
    isplitl [H3]; · iexact H3
    isplitl [H4]; · iexact H4
    isplitr
    · rw [win_nil (Nat.le_refl 25)]; iempintro
    iexact HO
  unfold Dr Ch1
  iintro ⟨H2, -, -, H3, HO⟩
  iapply Hk
  isplitr [HO]
  · isplitl [H1]; · iexact H1
    isplitl [H2]; · iexact H2
    isplitl [H5]; · iexact H5
    iexact H3
  iexact HO

theorem slots0 (d s : Bool) (c : Dev nD) : (win 0 6 (fun j => slotAny d s c j fullShare) : sProp 𝕄)
    = iprop(slotAny d s c 0 fullShare ∗ win 1 6 (fun j => slotAny d s c j fullShare)) := win_bot (by omega) _

theorem outAt_start (c : Dev nD) : (iprop(∃ Y, owns (Val := Elt F) (c : Thread nD τ) out fullShare Y) : sProp 𝕄)
    ⊢ outAt out (kw c) (chk3 c) c (result xb wb c) (fun _ _ k => k < 0) := by
  unfold outAt
  iintro ⟨%Y, H⟩
  iexists Y
  isplitr
  · ipureintro; exact fun _ _ k hk => absurd hk (Nat.not_lt_zero k)
  iexact H

theorem outAt_end (c : Dev nD) {n : ℕ} (hn : n = 30) : (outAt out (kw c) (chk3 c) c (result xb wb c) (fun _ _ k => k < n) : sProp 𝕄)
    ⊢ owns (Val := Elt F) (c : Thread nD τ) out fullShare (result xb wb c) := by
  subst hn
  unfold outAt
  iintro ⟨%X, %hX, H⟩
  have e : X = result xb wb c := by
    funext z
    obtain ⟨d, s, h, h1, h2, y, rfl⟩ := covered c z
    exact hX d s h h2 h1 y
  rw [← e]
  iexact H

theorem talk_spec (c : Dev nD) (Q : PUnit → sProp 𝕄) :
    iprop(ctx (sent xb wb) K ∗ talkPre xb wb x w out c ∗ (talkPost xb wb x w out c -∗ Q ⟨⟩))
      ⊢ WP c (talk x w out chs (kw c) (nw false c) (nw true c) (chk3 c) (chk2 c) (chk1 c)) Q := by
  unfold talkPre Ch0 talk O₀
  rw [slots0, slots0, slots0, slots0, target_nw c true, target_nw c false]
  iintro ⟨#HI, ⟨Hat, Hcb, Htt, Htf, ⟨⟨V00, P00, T00, Z00, S00⟩, V01, P01, T01, Z01, S01⟩, ⟨⟨V10, P10, T10, Z10, S10⟩, V11, P11, T11, Z11, S11⟩, HO, Hx, Hw, Hout⟩, Hk⟩
  have b0 := barPay_intro (F := F) false c
  have b1 := barPay_intro (F := F) true c
  ihave B0 := b0 $$ [V00 V01 S00 S01]
  · isplitl [V00]; · iexact V00
    isplitl [V01]; · iexact V01
    isplitl [S00] <;> iassumption
  icases B0 with ⟨V00, V01, B0⟩
  ihave B1 := b1 $$ [V10 V11 S10 S11]
  · isplitl [V10]; · iexact V10
    isplitl [V11]; · iexact V11
    isplitl [S10] <;> iassumption
  icases B1 with ⟨V10, V11, B1⟩
  rw [WP_bind]
  iapply (signal_spec (sent xb wb) K c (tgt true c) false)
  isplitr; · iexact HI
  isplitl [Htt]; · iexact Htt
  isplitl [B0]; · iexact B0
  isplitl [HO]; · iexact HO
  iintro HO
  rw [WP_bind]
  iapply (signal_spec (sent xb wb) K c (tgt false c) true)
  isplitr; · iexact HI
  isplitl [Htf]; · iexact Htf
  isplitl [B1]; · iexact B1
  isplitl [HO]; · iexact HO
  iintro HO
  have hA : Above 1 (Rem c 30 + tallyAt (rc true true (tgt true c) 0) 0 N + tallyAt (rc true false (tgt true c) 0) 0 N
      + tallyAt (rc false true (tgt false c) 0) 0 N + tallyAt (rc false false (tgt false c) 0) 0 N) :=
    (((((Rem_above c (n := 30) (Nat.le_refl _)).mono (by omega)).add (Above.rc true true _ (by omega) (by omega))).add (Above.rc true false _ (by omega) (by omega))).add
      (Above.rc false true _ (by omega) (by omega))).add (Above.rc false false _ (by omega) (by omega))
  rw [WP_bind]
  iapply (barWait_spec (sent xb wb) K c hA)
  isplitr; · iexact HI
  isplitl [Hat]; · iexact Hat
  isplitl [Hcb]; · iexact Hcb
  isplitl [HO]; · iexact HO
  iintro ⟨Hat, B1, B0, HO⟩
  have e0 := barPay_elim (F := F) false c
  have e1 := barPay_elim (F := F) true c
  ihave B0 := e0 $$ B0
  icases B0 with ⟨⟨D00, W00⟩, D01, W01⟩
  ihave B1 := e1 $$ B1
  icases B1 with ⟨⟨D10, W10⟩, D11, W11⟩
  rw [WP_bind]
  iapply (loadW_spec w c (wb c))
  isplitl [Hw]; · iexact Hw
  iintro Hw
  rw [WP_bind]
  iapply (loadW_spec w c (wb c))
  isplitl [Hw]; · iexact Hw
  iintro Hw
  rw [WP_bind]
  iapply (fill_spec xb wb x c false)
  isplitl [Hx]; · iexact Hx
  isplitl [Z00]; · iexact Z00
  isplitl [Z01]; · iexact Z01
  iintro ⟨Hx, Z00, Z01⟩
  rw [WP_bind]
  iapply (fill_spec xb wb x c true)
  isplitl [Hx]; · iexact Hx
  isplitl [Z10]; · iexact Z10
  isplitl [Z11]; · iexact Z11
  iintro ⟨Hx, Z10, Z11⟩
  rw [WP_bind]
  iapply (send0_spec (sent xb wb) K false false c)
  isplitr; · iexact HI
  isplitl [Z00]; · iexact Z00
  isplitl [D00]; · iexact D00
  isplitl [P00]; · iexact P00
  isplitl [T00]; · iexact T00
  isplitl [HO]; · iexact HO
  iintro ⟨P00, T00, R00, HO⟩
  rw [WP_bind]
  iapply (send0_spec (sent xb wb) K false true c)
  isplitr; · iexact HI
  isplitl [Z01]; · iexact Z01
  isplitl [D01]; · iexact D01
  isplitl [P01]; · iexact P01
  isplitl [T01]; · iexact T01
  isplitl [HO]; · iexact HO
  iintro ⟨P01, T01, R01, HO⟩
  rw [WP_bind]
  iapply (send0_spec (sent xb wb) K true false c)
  isplitr; · iexact HI
  isplitl [Z10]; · iexact Z10
  isplitl [D10]; · iexact D10
  isplitl [P10]; · iexact P10
  isplitl [T10]; · iexact T10
  isplitl [HO]; · iexact HO
  iintro ⟨P10, T10, R10, HO⟩
  rw [WP_bind]
  iapply (send0_spec (sent xb wb) K true true c)
  isplitr; · iexact HI
  isplitl [Z11]; · iexact Z11
  isplitl [D11]; · iexact D11
  isplitl [P11]; · iexact P11
  isplitl [T11]; · iexact T11
  isplitl [HO]; · iexact HO
  iintro ⟨P11, T11, R11, HO⟩
  have h0 := Half0_intro (F := F) false c
  have h1 := Half0_intro (F := F) true c
  have ho := outAt_start xb wb out c
  rw [WP_bind]
  iapply (iters_spec (F := F) c (ctx (sent xb wb) K)
    (fun h => iprop(It out (kw c) (chk3 c) (result xb wb c) c h ∗ owns (Val := Elt F) (c : Thread nD τ) x fullShare (xb c))) _ 15 0
    (fun i _ hi Q => iterReduce_spec xb wb K x out c (by omega) Q))
  isplitr; · iexact HI
  isplitr [Hk Hat Hw]
  · isplitr [Hx]
    · unfold It
      isplitl [V00 P00 T00 R00 W00 V10 P10 T10 R10 W10]
      · iapply h0
        isplitl [V00 P00 T00 R00 W00]
        · isplitl [V00]; · iexact V00
          isplitl [P00]; · iexact P00
          isplitl [T00]; · iexact T00
          isplitl [R00] <;> iassumption
        · isplitl [V10]; · iexact V10
          isplitl [P10]; · iexact P10
          isplitl [T10]; · iexact T10
          isplitl [R10] <;> iassumption
      isplitl [V01 P01 T01 R01 W01 V11 P11 T11 R11 W11]
      · iapply h1
        isplitl [V01 P01 T01 R01 W01]
        · isplitl [V01]; · iexact V01
          isplitl [P01]; · iexact P01
          isplitl [T01]; · iexact T01
          isplitl [R01] <;> iassumption
        · isplitl [V11]; · iexact V11
          isplitl [P11]; · iexact P11
          isplitl [T11]; · iexact T11
          isplitl [R11] <;> iassumption
      isplitl [HO]; · iexact HO
      iapply ho; iexact Hout
    · iexact Hx
  iintro ⟨HIt, Hx⟩
  rw [WP_bind]
  iapply (iters_spec (F := F) c (ctx (sent xb wb) K) (It out (kw c) (chk3 c) (result xb wb c) c) _ 15 15
    (fun i hi hi' Q => iterGather_spec xb wb K out c hi (by omega) Q))
  isplitr; · iexact HI
  isplitl [HIt]; · iexact HIt
  unfold It Half
  iintro ⟨⟨M00, M10, -⟩, ⟨M01, M11, -⟩, HO, Hout⟩
  have hoe := outAt_end xb wb out c (n := 15 + 15) rfl
  ihave Hout := hoe $$ Hout
  iapply (drain_end xb wb K false false c)
  isplitr; · iexact HI
  isplitl [M00]; · iexact M00
  isplitl [HO]; · iexact HO
  iintro ⟨C00, HO⟩
  iapply (drain_end xb wb K false true c)
  isplitr; · iexact HI
  isplitl [M01]; · iexact M01
  isplitl [HO]; · iexact HO
  iintro ⟨C01, HO⟩
  iapply (drain_end xb wb K true false c)
  isplitr; · iexact HI
  isplitl [M10]; · iexact M10
  isplitl [HO]; · iexact HO
  iintro ⟨C10, HO⟩
  have hlast := drain_end xb wb K true true c (fun _ => pure ⟨⟩) Q
  rw [show (drain (F := F) chs true true >>= fun _ => pure ⟨⟩) = drain chs true true from by simp only [bind_pure_comp, id_map']] at hlast
  iapply hlast
  isplitr; · iexact HI
  isplitl [M11]; · iexact M11
  isplitl [HO]; · iexact HO
  iintro ⟨C11, HO⟩
  iapply (WP_pure (F := F) c)
  iapply Hk
  unfold talkPost
  isplitl [Hat]; · iexact Hat
  isplitl [C00 C01]; · isplitl [C00] <;> iassumption
  isplitl [C10 C11]; · isplitl [C10] <;> iassumption
  isplitl [HO]; · iexact HO
  isplitl [Hx]; · iexact Hx
  isplitl [Hw]; · iexact Hw
  iexact Hout

end Device

end Cert.Ring16

end
-- ==== Proof.Ring16.Slots.lean ====
/-
  The scratch buffers cut into their slots and joined again, and the 48 semaphores of the channels opened when
  the kernel starts and closed when it ends.
-/
module

public import proofs.«01_k».proof.Proof.Ring16.Device

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

/-! ## Conjunctions over small index sets -/

theorem both (Φ : Bool → sProp 𝕄) : bigSep Finset.univ Φ = iprop(Φ false ∗ Φ true) := by
  rw [show (Finset.univ : Finset Bool) = {false, true} by decide, bigSep_insert (by decide), bigSep_singleton]
  rfl

/-- A statement per channel, for all four. -/
theorem four (Φ : Bool → Bool → sProp 𝕄) :
    bigSep Finset.univ (fun d => bigSep Finset.univ (Φ d)) = iprop((Φ false false ∗ Φ false true) ∗ (Φ true false ∗ Φ true true)) := by
  rw [both, both, both]

/-- The numbers `a` to `a + n - 1` in any order. -/
theorem win_of_fin {n a : ℕ} (e : Fin n ↪ ℕ) (he : Finset.univ.map e = Finset.Ico a (a + n)) (A : ℕ → sProp 𝕄) :
    bigSep Finset.univ (fun j : Fin n => A (e j)) = win a (a + n) A := by
  rw [win, ← he, bigSep_map]

theorem win_fin (n : ℕ) (A : ℕ → sProp 𝕄) : bigSep Finset.univ (fun j : Fin n => A j.val) = win 0 n A := by
  have := win_of_fin (F := F) (n := n) (a := 0) Fin.valEmbedding (by
    ext x
    simp only [Finset.mem_map, Finset.mem_univ, true_and, Finset.mem_Ico, Fin.valEmbedding_apply]
    exact ⟨fun ⟨y, hy⟩ => ⟨Nat.zero_le _, by have := y.isLt; omega⟩, fun h => ⟨⟨x, by omega⟩, rfl⟩⟩) A
  rw [Nat.zero_add] at this
  exact this

/-! ## A channel's slots and its buffer -/

/-- The elements of slot `j`. -/
abbrev slotSet (d s : Bool) (c : Dev nD) (j : Fin 6) : Finset (Idx ((chs d s).buf.view.loc (c : Thread nD τ))) := ((chs d s).slot j.val).view.set

theorem slotSet_disjoint (d s : Bool) (c : Dev nD) : ∀ i j, i ≠ j → Disjoint (slotSet d s c i) (slotSet d s c j) := by
  intro i j hij
  have h1 : ∀ k : Fin 6, slotSet d s c k = (Rect.unit (s := S6x256x512) ![k.val % 6, 0, 0] S1x256x512.size
      (by intro a; have := Nat.mod_lt k.val (show 6 > 0 by decide); revert a; simp [Fin.forall_fin_succ]; omega)).set.map (chs d s).buf.view.emb := fun k =>
    (View.set_reshape _ _).trans (View.set_slice _ _)
  rw [h1, h1, Finset.disjoint_map, Finset.disjoint_left]
  intro x hx hy
  have hx := (Rect.mem_set_unit.mp hx) 0
  have hy := (Rect.mem_set_unit.mp hy) 0
  have e1 : i.val % 6 ≤ (x 0).val ∧ (x 0).val < i.val % 6 + 1 := hx
  have e2 : j.val % 6 ≤ (x 0).val ∧ (x 0).val < j.val % 6 + 1 := hy
  exact hij (Fin.ext (by have := i.isLt; have := j.isLt; omega))

/-- A channel's buffer at contents no one names. -/
abbrev bufAny (d s : Bool) (c : Dev nD) : sProp 𝕄 :=
  iprop(∃ f : Buf (Elt F) ((chs d s).buf.view.loc (c : Thread nD τ)), (chs d s).buf.view.loc (c : Thread nD τ) ↦{fullShare} f)
/-- What the slots leave of it. -/
def bufRest (d s : Bool) (c : Dev nD) : sProp 𝕄 :=
  iprop(∃ f : Buf (Elt F) ((chs d s).buf.view.loc (c : Thread nD τ)), (chs d s).buf.view.loc (c : Thread nD τ) ↦[Ring.restOf (slotSet d s c)]{fullShare} f)

theorem slot_any (d s : Bool) (c : Dev nD) (j : ℕ) :
    iprop(∃ f : Buf (Elt F) ((chs d s).buf.view.loc (c : Thread nD τ)), (chs d s).buf.view.loc (c : Thread nD τ) ↦[((chs d s).slot j).view.set]{fullShare} f)
      ⊢ (slotAny (F := F) d s c j fullShare : sProp 𝕄) := by
  unfold slotAny
  iintro ⟨%f, H⟩
  iexists _
  iapply (owns_intro (c : Thread nD τ) ((chs d s).slot j) fullShare f)
  iexact H
theorem slot_pts (d s : Bool) (c : Dev nD) (j : ℕ) :
    (slotAny (F := F) d s c j fullShare : sProp 𝕄)
      ⊢ iprop(∃ f : Buf (Elt F) ((chs d s).buf.view.loc (c : Thread nD τ)), (chs d s).buf.view.loc (c : Thread nD τ) ↦[((chs d s).slot j).view.set]{fullShare} f) := by
  unfold slotAny slotAt owns
  iintro ⟨%X, %f, -, H⟩
  iexists f
  iexact H

theorem buf_split (d s : Bool) (c : Dev nD) :
    bufAny (F := F) d s c ⊢ iprop(win 0 6 (fun j => slotAny (F := F) d s c j fullShare) ∗ bufRest d s c) := by
  refine (Ring.fam_split_ex (slotSet d s c) (slotSet_disjoint d s c)).trans (sep_mono ?_ .rfl)
  rw [← win_fin]
  exact bigSep_mono fun j _ => slot_any d s c j.val

/-- Slots 25 to 30 are the six slots. -/
theorem buf_join (d s : Bool) (c : Dev nD) :
    iprop(slotAny (F := F) d s c 30 fullShare ∗ win 25 30 (fun j => slotAny (F := F) d s c j fullShare) ∗ bufRest d s c) ⊢ bufAny (F := F) d s c := by
  have h : iprop(slotAny (F := F) d s c 30 fullShare ∗ win 25 30 (fun j => slotAny (F := F) d s c j fullShare))
      ⊢ bigSep Finset.univ (fun j : Fin 6 => iprop(∃ f : Buf (Elt F) ((chs d s).buf.view.loc (c : Thread nD τ)), (chs d s).buf.view.loc (c : Thread nD τ) ↦[slotSet d s c j]{fullShare} f)) := by
    rw [← win_top (show 25 ≤ 30 by decide) (fun j => slotAny (F := F) d s c j fullShare),
      ← win_of_fin (n := 6) (a := 25) ⟨fun j => 25 + (j.val + 5) % 6, fun i j h => Fin.ext (by have := i.isLt; have := j.isLt; dsimp only at h; omega)⟩ (by decide)]
    exact bigSep_mono fun j _ => by
      rw [← slotAny_congr d s c (show j.val % 6 = _ by show _ = (25 + (j.val + 5) % 6) % 6; omega)]
      exact slot_pts d s c j.val
  iintro ⟨H1, H2, H3⟩
  iapply (show iprop(bigSep Finset.univ (fun j : Fin 6 => iprop(∃ f : Buf (Elt F) ((chs d s).buf.view.loc (c : Thread nD τ)), (chs d s).buf.view.loc (c : Thread nD τ) ↦[slotSet d s c j]{fullShare} f)) ∗ bufRest d s c)
    ⊢ bufAny (F := F) d s c from by
      unfold bufRest
      iintro ⟨H, ⟨%f, Hr⟩⟩
      iapply (Ring.fam_join (slotSet d s c) (slotSet_disjoint d s c) f)
      isplitl [H]; · iexact H
      iexists f; iexact Hr)
  isplitr [H3]
  · iapply h
    isplitl [H1]; · iexact H1
    iexact H2
  · iexact H3

/-! ## The channels' semaphores -/

/-- A channel's direction and half, whether the receiving side, and a number below six. -/
abbrev Cell : Type := Bool × Bool × Bool × Fin 6

def cellNo (k : Cell) : Fin 48 :=
  ⟨12 * chNo k.1 k.2.1 + cond k.2.2.1 (6 + (k.2.2.2.val + 1) % 6) k.2.2.2.val, by
    have := chNo_lt k.1 k.2.1; have := k.2.2.2.isLt
    cases k.2.2.1 <;> simp only [cond_true, cond_false] <;> omega⟩

theorem cellNo_bij : Function.Bijective cellNo := by
  rw [Fintype.bijective_iff_injective_and_card]
  exact ⟨by decide +kernel, by decide⟩

def cellEquiv : Cell ≃ Fin 48 := Equiv.ofBijective cellNo cellNo_bij

theorem rc_cell (d s : Bool) (c : Dev nD) (j : Fin 6) : chEmb (c, cellNo (d, s, true, j)) = rc d s c j.val := by
  rw [rc_ch]
  exact congrArg (fun k => chEmb (c, k)) (Fin.ext (by show 12 * chNo d s + (6 + (j.val + 1) % 6) = _; dsimp only; omega))
theorem sc_cell (d s : Bool) (c : Dev nD) (j : Fin 6) : chEmb (c, cellNo (d, s, false, j)) = sc d s c j.val := by
  rw [sc_ch]
  exact congrArg (fun k => chEmb (c, k)) (Fin.ext (by show 12 * chNo d s + j.val = _; have := j.isLt; dsimp only; omega))

/-- A statement per semaphore of the channels is one per channel and number. -/
theorem cells_four (c : Dev nD) (P : GSem nD τ sig → sProp 𝕄) :
    bigSep Finset.univ (fun k : Fin 48 => P (chEmb (c, k)))
      = bigSep Finset.univ (fun d => bigSep Finset.univ fun s => iprop(win 0 6 (fun n => P (sc d s c n)) ∗ win 0 6 (fun n => P (rc d s c n)))) := by
  rw [bigSep_univ_equiv cellEquiv, bigSep_univ_prod]
  refine bigSep_congr fun d _ => ?_
  rw [bigSep_univ_prod]
  refine bigSep_congr fun s _ => ?_
  rw [bigSep_univ_prod, both, ← win_fin, ← win_fin]
  congr 1
  · exact bigSep_congr fun j _ => congrArg P (sc_cell d s c j)
  · exact bigSep_congr fun j _ => congrArg P (rc_cell d s c j)

variable (msg : Bool → Bool → ℕ → Dev nD → FVec F S256x512 .bf16) (K : GSem nD τ sig → ℕ)

theorem ch_mem (c : Dev nD) (k : Fin 48) : chEmb (c, k) ∈ (barCells ∪ chCells : Finset (GSem nD τ sig)) :=
  Finset.mem_union_right _ (Finset.mem_map_of_mem chEmb (Finset.mem_univ _))

theorem open_one (c : Dev nD) (k : Fin 48) :
    iprop(ctx msg K ∗ (openTok ER (chEmb (c, k)) ∗ semVal (chEmb (c, k)) 0)) ⊢ (|={Set.univ}=> posn (chEmb (c, k)) 0 : sProp 𝕄) := by
  unfold posn
  iintro ⟨#Hctx, Ho, Hv⟩
  iapply (Rounds.cell_open ER (Rd msg) (g := chEmb (c, k)) (Set.mem_univ (K (chEmb (c, k)))))
  isplitr; · iapply (ctx_inv msg K (ch_mem c k)); iexact Hctx
  isplitl [Ho]; · iexact Ho
  iexact Hv

theorem close_one (g : GSem nD τ sig) (hg : g ∈ (barCells ∪ chCells : Finset (GSem nD τ sig))) :
    iprop(ctx msg K ∗ posn g 5) ⊢ (|={Set.univ}=> semVal g 0 : sProp 𝕄) := by
  unfold posn
  iintro ⟨#Hctx, Ha, -⟩
  iapply (Rounds.cell_close ER (Rd msg) (g := g) (Set.mem_univ (K g)) id (duties_later msg g))
  isplitr; · iapply (ctx_inv msg K hg); iexact Hctx
  iexact Ha

/-- Every semaphore of the channels opened. -/
theorem open_all (c : Dev nD) :
    iprop(ctx msg K ∗ (bigSep Finset.univ fun k : Fin 48 => (openTok ER (chEmb (c, k)) : sProp 𝕄)) ∗ bigSep Finset.univ fun k : Fin 48 => (semVal (chEmb (c, k)) 0 : sProp 𝕄))
      ⊢ (|={Set.univ}=> bigSep Finset.univ (fun k : Fin 48 => posn (chEmb (c, k)) 0) : sProp 𝕄) := by
  refine .trans ?_ (bigSep_fupd (Finset.univ : Finset (Fin 48)) _)
  rw [← bigSep_sep']
  exact bigSep_with_persistent fun k _ => open_one msg K c k

/-- Every semaphore of the channels closed. -/
theorem close_all (c : Dev nD) :
    iprop(ctx msg K ∗ bigSep Finset.univ (fun k : Fin 48 => posn (chEmb (c, k)) 5))
      ⊢ (|={Set.univ}=> bigSep Finset.univ (fun k : Fin 48 => semVal (chEmb (c, k)) 0) : sProp 𝕄) := by
  refine .trans ?_ (bigSep_fupd (Finset.univ : Finset (Fin 48)) _)
  exact bigSep_with_persistent fun k _ => close_one msg K _ (ch_mem c k)

theorem close_bar (c : Dev nD) :
    iprop(ctx msg K ∗ atPos ER (barCell c) 1 ∅ 0) ⊢ (|={Set.univ}=> semVal (barCell c) 0 : sProp 𝕄) := by
  iintro ⟨#Hctx, Ha⟩
  iapply (Rounds.cell_close ER (Rd msg) (g := barCell c) (Set.mem_univ (K (barCell c))) id (duties_bar_later msg c))
  isplitr; · iapply (ctx_inv msg K (bar_mem c)); iexact Hctx
  iexact Ha

/-- The first six messages' places are the cells' places at round 0. -/
theorem pos_zero (d s : Bool) (c : Dev nD) :
    iprop(win 0 6 (fun n => posn (F := F) (sc d s c n) 0) ∗ win 0 6 (fun n => posn (F := F) (rc d s c n) 0))
      ⊢ iprop(win 0 6 (scPos (F := F) d s c) ∗ win 0 6 (rcPos (F := F) d s c)) :=
  BI.sep_mono
    (bigSep_mono fun n hn => by
      have := (Finset.mem_Ico.mp hn).2
      exact (show scPos (F := F) d s c n = posn (sc d s c n) 0 by rw [scPos, show n / 6 = 0 by omega]) ▸ Idealize.SL.BI.Entails.refl _)
    (bigSep_mono fun n hn => by
      have := (Finset.mem_Ico.mp hn).2
      exact (show rcPos (F := F) d s c n = posn (rc d s c n) 0 by rw [rcPos, show n / 6 = 0 by omega]) ▸ Idealize.SL.BI.Entails.refl _)

/-- Past the last message the cells stand at round 5. -/
theorem pos_five (d s : Bool) (c : Dev nD) :
    iprop(win 30 36 (scPos (F := F) d s c) ∗ win 30 36 (rcPos (F := F) d s c))
      ⊢ iprop(win 0 6 (fun n => posn (F := F) (sc d s c n) 5) ∗ win 0 6 (fun n => posn (F := F) (rc d s c n) 5)) := by
  have h : ∀ A B : ℕ → sProp 𝕄, (∀ n, n < 6 → A (30 + n) ⊢ B n) → win 30 36 A ⊢ win 0 6 B := by
    intro A B hAB
    rw [← win_fin, ← win_of_fin (n := 6) (a := 30) ⟨fun j => 30 + j.val, fun i j h => Fin.ext (by dsimp only at h; omega)⟩ (by decide)]
    exact bigSep_mono fun j _ => hAB j.val j.isLt
  refine BI.sep_mono (h _ _ fun n hn => ?_) (h _ _ fun n hn => ?_)
  · rw [scPos, show (30 + n) / 6 = 5 by omega, sc_congr d s c (show (30 + n) % 6 = n % 6 by omega)]
  · rw [rcPos, show (30 + n) / 6 = 5 by omega, rc_congr d s c (show (30 + n + 1) % 6 = (n + 1) % 6 by omega)]

end Cert.Ring16
end
-- ==== Proof.Ring16.Run.lean ====
/-
  The kernel's body on one device, from the words of the host to the semaphores put back.
-/
module

public import proofs.«01_k».proof.Proof.Ring16.Slots
public import Idealize.ShloMosaic.Lib.Pipeline.ValueKit

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

/-! ## The words the kernel reads -/

/-- A buffer of one word. -/
abbrev wordVec (v : BitVec 32) : Vec F S1 .i32 := fun _ => v

theorem word_spec (a : Memref sig .tc .smem S1 .i32) (c : Dev nD) (v : BitVec 32) (Q : Elt F .i32 → sProp 𝕄) :
    iprop(owns (Val := Elt F) (c : Thread nD τ) a fullShare (wordVec v) ∗ (owns (Val := Elt F) (c : Thread nD τ) a fullShare (wordVec v) -∗ Q v))
      ⊢ WP c (smemLoad a (Rect.unit (s := S1) ![0] S1.size inb_S1_S1_0) numel1_S1 rfl) Q := by
  unfold owns smemLoad smemLoadElt
  iintro ⟨⟨%f, %hf, H⟩, Hk⟩
  iapply (wp_load_rect 𝒱₀ (c : Thread nD τ) none Set.univ (m := a) (r := Rect.unit (s := S1) ![0] S1.size inb_S1_S1_0) (S := a.view.set) (q := fullShare) (f := f)
    (View.set_slice_subset _ _)) $$ [H]
  · iexact H
  iintro H
  rw [wp_ret]; imodintro
  rw [show (a.access (Rect.unit (s := S1) ![0] S1.size inb_S1_S1_0)).read (Elt F) f = fun _ => v from
    funext fun i => congrFun hf ((Rect.unit (s := S1) ![0] S1.size inb_S1_S1_0).emb i)]
  iapply Hk
  iexists f; isplitr; · ipureintro; exact hf
  iexact H

theorem assume_spec (c : Dev nD) {P : Prop} {d : Decidable P} (h : P) (Q : PLift P → sProp 𝕄) :
    Q ⟨h⟩ ⊢ WP c (Prog.lift (TpuEff.assume P d) : Prog (TpuEff nD τ sig (Elt F) Λ₀ .tc) (PLift P)) Q := by
  iintro H
  iapply (wp_assume 𝒱₀ (c : Thread nD τ) none Set.univ h)
  rw [wp_ret]
  imodintro; iexact H

section Body

variable (xb : Dev nD → FVec F S4096x256 .bf16) (wb : Dev nD → FVec F S256x2048 .bf16) (K : GSem nD τ sig → ℕ)
variable (x : Memref sig .tc .vmem S4096x256 .bf16) (w : Memref sig .tc .vmem S256x2048 .bf16) (kr rr lr : Memref sig .tc .smem S1 .i32) (out : Memref sig .tc .vmem S4096x2048 .f32)

/-- The three words in their buffers. -/
def words (c : Dev nD) : sProp 𝕄 :=
  iprop(owns (Val := Elt F) (c : Thread nD τ) kr fullShare (wordVec (kw c)) ∗ owns (Val := Elt F) (c : Thread nD τ) rr fullShare (wordVec (nw false c))
    ∗ owns (Val := Elt F) (c : Thread nD τ) lr fullShare (wordVec (nw true c)))

theorem body_spec (c : Dev nD) (Q : PUnit → sProp 𝕄) :
    iprop(ctx (sent xb wb) K ∗ words kr rr lr c ∗ talkPre xb wb x w out c ∗ (words kr rr lr c ∗ talkPost xb wb x w out c -∗ Q ⟨⟩))
      ⊢ WP c (bodyText x w kr rr lr out chs) Q := by
  unfold bodyText words
  rw [WP_bind]
  iintro ⟨#Hctx, ⟨H0, H1, H2⟩, Hp, Hk⟩
  iapply (word_spec kr c (kw c) _)
  isplitl [H0]; · iexact H0
  iintro H0
  rw [WP_bind]
  iapply (assume_spec c (chk3 c) _)
  rw [WP_bind]
  iapply (word_spec rr c (nw false c) _)
  isplitl [H1]; · iexact H1
  iintro H1
  rw [WP_bind]
  iapply (assume_spec c (chk2 c) _)
  rw [WP_bind]
  iapply (word_spec lr c (nw true c) _)
  isplitl [H2]; · iexact H2
  iintro H2
  rw [WP_bind]
  iapply (assume_spec c (chk1 c) _)
  iapply (talk_spec xb wb K x w out c Q)
  isplitr; · iexact Hctx
  isplitl [Hp]; · iexact Hp
  iintro Hq
  iapply Hk
  isplitr [Hq]
  · isplitl [H0]; · iexact H0
    isplitl [H1]; · iexact H1
    iexact H2
  · iexact Hq

end Body

/-! ## What a device keeps of the launch for the kernel -/

/-- Of one channel: the credits of its receives, the tokens of its sends and of what they let the neighbour receive. -/
def chTok (d s : Bool) (c : Dev nD) : sProp 𝕄 :=
  iprop(win 0 30 (rcCred (F := F) d s c) ∗ win 0 30 (rcTok (F := F) d s c) ∗ win 0 30 (scTok (F := F) d s c))

/-- Of the barrier. -/
def barTok (c : Dev nD) : sProp 𝕄 :=
  iprop(atPos ER (barCell c) 0 ∅ 0 ∗ cred (tallyAt (barCell c) 0 2) ∗ dutyTok ER (barCell (tgt true c)) 0 false ∗ dutyTok ER (barCell (tgt false c)) 0 true)

def allTok (c : Dev nD) : sProp 𝕄 :=
  iprop(barTok (F := F) c ∗ (chTok (F := F) false false c ∗ chTok (F := F) false true c) ∗ (chTok (F := F) true false c ∗ chTok (F := F) true true c))

/-- A channel's semaphores at round `r`. -/
def chPos (d s : Bool) (c : Dev nD) (r : ℕ) : sProp 𝕄 :=
  iprop(win 0 6 (fun n => posn (F := F) (sc d s c n) r) ∗ win 0 6 (fun n => posn (F := F) (rc d s c n) r))

theorem pos_four (c : Dev nD) (r : ℕ) :
    bigSep Finset.univ (fun k : Fin 48 => posn (F := F) (chEmb (c, k)) r)
      = iprop((chPos (F := F) false false c r ∗ chPos (F := F) false true c r) ∗ (chPos (F := F) true false c r ∗ chPos (F := F) true true c r)) := by
  rw [cells_four c (fun g => posn (F := F) g r)]
  exact four (fun d s => chPos (F := F) d s c r)

theorem ch_open (d s : Bool) (c : Dev nD) :
    iprop(chPos (F := F) d s c 0 ∗ chTok (F := F) d s c ∗ bufAny (F := F) d s c) ⊢ iprop(Ch0 (F := F) d s c ∗ bufRest (F := F) d s c) := by
  unfold chPos chTok Ch0 Rv
  iintro ⟨Hp, ⟨Hc, Hr, Hs⟩, Hb⟩
  ihave Hp' := (pos_zero d s c) $$ Hp
  icases Hp' with ⟨Hps, Hpr⟩
  ihave Hb' := (buf_split d s c) $$ Hb
  icases Hb' with ⟨Hsl, Hre⟩
  isplitr [Hre]
  · isplitl [Hpr Hc]
    · isplitl [Hpr]; · iexact Hpr
      iexact Hc
    isplitl [Hps]; · iexact Hps
    isplitl [Hr Hs]
    · isplitl [Hr]; · iexact Hr
      iexact Hs
    iexact Hsl
  · iexact Hre

theorem ch_close (d s : Bool) (c : Dev nD) :
    iprop(Ch1 (F := F) d s c ∗ bufRest (F := F) d s c) ⊢ iprop(chPos (F := F) d s c 5 ∗ bufAny (F := F) d s c) := by
  unfold chPos Ch1
  iintro ⟨⟨Hpr, Hps, H30, Hsl⟩, Hre⟩
  isplitl [Hpr Hps]
  · iapply (pos_five d s c)
    isplitl [Hps]; · iexact Hps
    iexact Hpr
  · iapply (buf_join d s c)
    isplitl [H30]; · iexact H30
    isplitl [Hsl]; · iexact Hsl
    iexact Hre

/-- The four buffers no window stages. -/
theorem rest_four (c : Dev nD) :
    (Pipeline.scopedRest (Ix := ℕ) (Name := ℕ) (U := UU) (Lvl := ℕ) (Val := Elt F) spec0 c : sProp 𝕄)
      = iprop(bufAny (F := F) false false c ∗ bufAny (F := F) false true c ∗ bufAny (F := F) true false c ∗ bufAny (F := F) true true c) :=
  scopedRest0_eq c

section Run

variable (xb : Dev nD → FVec F S4096x256 .bf16) (wb : Dev nD → FVec F S256x2048 .bf16)
variable (x : Memref sig .tc .vmem S4096x256 .bf16) (w : Memref sig .tc .vmem S256x2048 .bf16) (kr rr lr : Memref sig .tc .smem S1 .i32) (out : Memref sig .tc .vmem S4096x2048 .f32)

/-- Before the kernel: the invariants, every semaphore of the channels at round 0 and the launch's tokens. -/
def Xk (c : Dev nD) : sProp 𝕄 :=
  iprop(∃ K, ctx (sent xb wb) K ∗ bigSep Finset.univ (fun k : Fin 48 => posn (F := F) (chEmb (c, k)) 0) ∗ allTok (F := F) c)

/-- After it: the semaphores at zero. -/
def Yk (c : Dev nD) : sProp 𝕄 := semVal (barCell c) 0

def zeros (c : Dev nD) : sProp 𝕄 := bigSep Finset.univ fun k : Fin 48 => semVal (chEmb (c, k)) 0

abbrev restOf0 (c : Dev nD) : sProp 𝕄 := Pipeline.scopedRest (Ix := ℕ) (Name := ℕ) (U := UU) (Lvl := ℕ) (Val := Elt F) spec0 c

theorem run_spec (c : Dev nD) (Q : PUnit → sProp 𝕄) :
    iprop(Xk xb wb c ∗ restOf0 (F := F) c ∗ words kr rr lr c ∗ owing c (O₀ c) ∗ owns (Val := Elt F) (c : Thread nD τ) x fullShare (xb c)
        ∗ owns (Val := Elt F) (c : Thread nD τ) w fullShare (wb c) ∗ (∃ Y, owns (Val := Elt F) (c : Thread nD τ) out fullShare Y)
        ∗ (Yk (F := F) c ∗ zeros (F := F) c ∗ restOf0 (F := F) c ∗ words kr rr lr c ∗ owing c 0 ∗ owns (Val := Elt F) (c : Thread nD τ) x fullShare (xb c)
            ∗ owns (Val := Elt F) (c : Thread nD τ) w fullShare (wb c) ∗ owns (Val := Elt F) (c : Thread nD τ) out fullShare (result xb wb c) -∗ Q ⟨⟩))
      ⊢ WP c (bodyText x w kr rr lr out chs) Q := by
  unfold Xk allTok barTok restOf0 Yk zeros
  rw [rest_four, pos_four]
  iintro ⟨⟨%K, #Hctx, ⟨⟨P1, P2⟩, ⟨P3, P4⟩⟩, ⟨Hat, Hcr, Hd1, Hd2⟩, ⟨T1, T2⟩, ⟨T3, T4⟩⟩, ⟨B1, B2, B3, B4⟩, Hw, HO, Hx, HW, HY, Hk⟩
  ihave C1 := (ch_open false false c) $$ [P1 T1 B1]
  · isplitl [P1]; · iexact P1
    isplitl [T1]; · iexact T1
    iexact B1
  ihave C2 := (ch_open false true c) $$ [P2 T2 B2]
  · isplitl [P2]; · iexact P2
    isplitl [T2]; · iexact T2
    iexact B2
  ihave C3 := (ch_open true false c) $$ [P3 T3 B3]
  · isplitl [P3]; · iexact P3
    isplitl [T3]; · iexact T3
    iexact B3
  ihave C4 := (ch_open true true c) $$ [P4 T4 B4]
  · isplitl [P4]; · iexact P4
    isplitl [T4]; · iexact T4
    iexact B4
  icases C1 with ⟨C1, R1⟩
  icases C2 with ⟨C2, R2⟩
  icases C3 with ⟨C3, R3⟩
  icases C4 with ⟨C4, R4⟩
  iapply (wp_fupd Idealize.ShloMosaic.frame (wpE (defs₀ (F := F)) 𝒱₀ (c : Thread nD τ) none) Set.univ (bodyText x w kr rr lr out chs) Q)
  iapply (body_spec xb wb K x w kr rr lr out c _)
  isplitr; · iexact Hctx
  isplitl [Hw]; · iexact Hw
  isplitl [Hat Hcr Hd1 Hd2 C1 C2 C3 C4 HO Hx HW HY]
  · unfold talkPre
    isplitl [Hat]; · iexact Hat
    isplitl [Hcr]; · iexact Hcr
    isplitl [Hd1]; · iexact Hd1
    isplitl [Hd2]; · iexact Hd2
    isplitl [C1 C2]
    · isplitl [C1]; · iexact C1
      iexact C2
    isplitl [C3 C4]
    · isplitl [C3]; · iexact C3
      iexact C4
    isplitl [HO]; · iexact HO
    isplitl [Hx]; · iexact Hx
    isplitl [HW]; · iexact HW
    iexact HY
  unfold talkPost
  iintro ⟨Hw, Hat, ⟨C1, C2⟩, ⟨C3, C4⟩, HO, Hx, HW, HY⟩
  ihave D1 := (ch_close false false c) $$ [C1 R1]
  · isplitl [C1]; · iexact C1
    iexact R1
  ihave D2 := (ch_close false true c) $$ [C2 R2]
  · isplitl [C2]; · iexact C2
    iexact R2
  ihave D3 := (ch_close true false c) $$ [C3 R3]
  · isplitl [C3]; · iexact C3
    iexact R3
  ihave D4 := (ch_close true true c) $$ [C4 R4]
  · isplitl [C4]; · iexact C4
    iexact R4
  icases D1 with ⟨P1, B1⟩
  icases D2 with ⟨P2, B2⟩
  icases D3 with ⟨P3, B3⟩
  icases D4 with ⟨P4, B4⟩
  imod (close_bar (sent xb wb) K c) $$ [Hat] with Hb
  · isplitr; · iexact Hctx
    iexact Hat
  imod (close_all (sent xb wb) K c) $$ [P1 P2 P3 P4] with Hz
  · isplitr; · iexact Hctx
    iapply (Entails.of_eq (pos_four c 5).symm)
    isplitl [P1 P2]
    · isplitl [P1]; · iexact P1
      iexact P2
    isplitl [P3]; · iexact P3
    iexact P4
  imodintro
  iapply Hk
  isplitl [Hb]; · iexact Hb
  isplitl [Hz]; · iexact Hz
  isplitl [B1 B2 B3 B4]
  · isplitl [B1]; · iexact B1
    isplitl [B2]; · iexact B2
    isplitl [B3]; · iexact B3
    iexact B4
  isplitl [Hw]; · iexact Hw
  isplitl [HO]; · iexact HO
  isplitl [Hx]; · iexact Hx
  isplitl [HW]; · iexact HW
  iexact HY

end Run

end Cert.Ring16
end
-- ==== Proof.Ring16.Host.lean ====
/-
  What the host operations before the kernel leave: each device's ring position and its two neighbours.
-/

module

public import proofs.«01_k».proof.Proof.Ring16.Run
public import proofs.«01_k».proof.Proof.Gen.KernelIdeal.Regions
public import Idealize.ShloMosaic.Lib.StableHlo.ReadAt

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

/-- A word held by a buffer of no dimension. -/
abbrev word0 (k : ℕ) : IVec S_ 32 := fun _ => BitVec.ofNat 32 k

theorem pos_word (c : Dev nD) (i : S_.Idx) : (Host.remui (Host.divui (constantI S_ 32 c.word) (constantI S_ 32 1#32)) (constantI S_ 32 16#32) : IVec S_ 32) i = BitVec.ofNat 32 c.val := by
  revert c i
  decide +kernel

/-! ## One lookup in a table of sixteen words -/

set_option maxRecDepth 65536 in
theorem take0 (V : Valuation τ sig (Elt F)) (k : Fin 16) (hv : V (Proc.devRef .tc main_v4) = word0 k.val)
    (hc : V (Proc.devRef .tc main_c) = fun i => lit0 (S16.rowMajor i)) (i : S_.Idx) :
    StableHlo.after hostOps0_1 V (Proc.devRef .tc main_v5) i = lit0 k := by
  after_reads_at
  rw [hv, hc]
  clear hv hc
  revert k i
  decide +kernel

set_option maxRecDepth 65536 in
theorem take1 (V : Valuation τ sig (Elt F)) (k : Fin 16) (hv : V (Proc.devRef .tc main_v7) = word0 k.val)
    (hc : V (Proc.devRef .tc main_c_0) = fun i => lit1 (S16.rowMajor i)) (i : S_.Idx) :
    StableHlo.after hostOps0_3 V (Proc.devRef .tc main_v8) i = lit1 k := by
  after_reads_at
  rw [hv, hc]
  clear hv hc
  revert k i
  decide +kernel

set_option maxRecDepth 65536 in
theorem take2 (V : Valuation τ sig (Elt F)) (k : Fin 16) (hv : V (Proc.devRef .tc main_v11) = word0 k.val)
    (hc : V (Proc.devRef .tc main_c_1) = fun i => lit2 (S16.rowMajor i)) (i : S_.Idx) :
    StableHlo.after hostOps0_5 V (Proc.devRef .tc main_v12) i = lit2 k := by
  after_reads_at
  rw [hv, hc]
  clear hv hc
  revert k i
  decide +kernel

/-! ## The arithmetic between the lookups -/

set_option maxRecDepth 65536 in
theorem step_up (V : Valuation τ sig (Elt F)) (k : Fin 16) (hv : V (Proc.devRef .tc main_v5) = word0 k.val) (i : S_.Idx) :
    StableHlo.after hostOps0_2 V (Proc.devRef .tc main_v7) i = BitVec.ofNat 32 ((k.val + 1) % 16) := by
  after_reads_at
  rw [hv]
  clear hv
  revert k i
  decide +kernel

set_option maxRecDepth 65536 in
theorem step_down (V : Valuation τ sig (Elt F)) (k : Fin 16) (hv : V (Proc.devRef .tc main_v5) = word0 k.val) (i : S_.Idx) :
    StableHlo.after hostOps0_4 V (Proc.devRef .tc main_v11) i = BitVec.ofNat 32 ((k.val + 15) % 16) := by
  after_reads_at
  rw [hv]
  clear hv
  revert k i
  decide +kernel

set_option maxRecDepth 65536 in
theorem cast13 (V : Valuation τ sig (Elt F)) (v : ℕ) (hv : V (Proc.devRef .tc main_v5) = word0 v) :
    StableHlo.after hostOps0_6 V (Proc.devRef .tc main_v13) = wordVec (F := F) (BitVec.ofNat 32 v) := by
  funext i
  after_reads_at
  rw [hv]

set_option maxRecDepth 65536 in
theorem cast14 (V : Valuation τ sig (Elt F)) (v : ℕ) (hv : V (Proc.devRef .tc main_v8) = word0 v) :
    StableHlo.after hostOps0_6 V (Proc.devRef .tc main_v14) = wordVec (F := F) (BitVec.ofNat 32 v) := by
  funext i
  after_reads_at
  rw [hv]

set_option maxRecDepth 65536 in
theorem cast15 (V : Valuation τ sig (Elt F)) (v : ℕ) (hv : V (Proc.devRef .tc main_v12) = word0 v) :
    StableHlo.after hostOps0_6 V (Proc.devRef .tc main_v15) = wordVec (F := F) (BitVec.ofNat 32 v) := by
  funext i
  after_reads_at
  rw [hv]

/-! ## The three words -/

/-- A device's ring position below sixteen. -/
def posF (c : Dev nD) : Fin 16 := ⟨pos c, by revert c; decide⟩

theorem lit0_pos : ∀ c : Fin 16, lit0 c = BitVec.ofNat 32 (posF c).val := by decide +kernel
theorem lit1_up : ∀ c : Fin 16, lit1 ⟨((posF c).val + 1) % 16, Nat.mod_lt _ (by decide)⟩ = BitVec.ofNat 32 (tgt false c).val := by decide +kernel
theorem lit2_down : ∀ c : Fin 16, lit2 ⟨((posF c).val + 15) % 16, Nat.mod_lt _ (by decide)⟩ = BitVec.ofNat 32 (tgt true c).val := by decide +kernel

section Words

variable (m : (ℓ : Loc nD τ sig) → Buf (Elt F) ℓ)

set_option maxRecDepth 65536 in
theorem V1_v4 (c : Dev nD) : V1 m c (Proc.devRef .tc main_v4) = word0 c.val := by
  funext i
  unfold V1
  after_reads_at
  exact pos_word c i

set_option maxRecDepth 65536 in
theorem V1_c (c : Dev nD) : V1 m c (Proc.devRef .tc main_c) = fun i => lit0 (S16.rowMajor i) := by
  unfold V1
  after_reads_simp
  rfl

set_option maxRecDepth 65536 in
theorem V1_c0 (c : Dev nD) : V1 m c (Proc.devRef .tc main_c_0) = fun i => lit1 (S16.rowMajor i) := by
  unfold V1
  after_reads_simp
  rfl

set_option maxRecDepth 65536 in
theorem V1_c1 (c : Dev nD) : V1 m c (Proc.devRef .tc main_c_1) = fun i => lit2 (S16.rowMajor i) := by
  unfold V1
  after_reads_simp
  rfl

theorem V2_v5 (c : Dev nD) : V2 m c (Proc.devRef .tc main_v5) = word0 (posF c).val :=
  funext fun i => (take0 (V1 m c) c (V1_v4 m c) (V1_c m c) i).trans (lit0_pos c)

theorem V3_v7 (c : Dev nD) : V3 m c (Proc.devRef .tc main_v7) = word0 (((posF c).val + 1) % 16) :=
  funext fun i => step_up (V2 m c) (posF c) (V2_v5 m c) i

theorem V4_v8 (c : Dev nD) : V4 m c (Proc.devRef .tc main_v8) = word0 (tgt false c).val :=
  funext fun i => (take1 (V3 m c) ⟨((posF c).val + 1) % 16, Nat.mod_lt _ (by decide)⟩ (V3_v7 m c)
    ((V3_of m c main_c_0 (by decide)).trans ((V2_of m c main_c_0 (by decide)).trans (V1_c0 m c))) i).trans (lit1_up c)

theorem V4_v5 (c : Dev nD) : V4 m c (Proc.devRef .tc main_v5) = word0 (posF c).val :=
  (V4_of m c main_v5 (by decide)).trans ((V3_of m c main_v5 (by decide)).trans (V2_v5 m c))

theorem V5_v11 (c : Dev nD) : V5 m c (Proc.devRef .tc main_v11) = word0 (((posF c).val + 15) % 16) :=
  funext fun i => step_down (V4 m c) (posF c) (V4_v5 m c) i

theorem V6_v12 (c : Dev nD) : V6 m c (Proc.devRef .tc main_v12) = word0 (tgt true c).val :=
  funext fun i => (take2 (V5 m c) ⟨((posF c).val + 15) % 16, Nat.mod_lt _ (by decide)⟩ (V5_v11 m c)
    ((V5_of m c main_c_1 (by decide)).trans ((V4_of m c main_c_1 (by decide)).trans ((V3_of m c main_c_1 (by decide)).trans
      ((V2_of m c main_c_1 (by decide)).trans (V1_c1 m c))))) i).trans (lit2_down c)

theorem V6_v5 (c : Dev nD) : V6 m c (Proc.devRef .tc main_v5) = word0 (posF c).val :=
  (V6_of m c main_v5 (by decide)).trans ((V5_of m c main_v5 (by decide)).trans (V4_v5 m c))

theorem V6_v8 (c : Dev nD) : V6 m c (Proc.devRef .tc main_v8) = word0 (tgt false c).val :=
  (V6_of m c main_v8 (by decide)).trans ((V5_of m c main_v8 (by decide)).trans (V4_v8 m c))

theorem V7_v13 (c : Dev nD) : V7 m c (Proc.devRef .tc main_v13) = wordVec (F := F) (kw c) :=
  cast13 (V6 m c) _ (V6_v5 m c)

theorem V7_v14 (c : Dev nD) : V7 m c (Proc.devRef .tc main_v14) = wordVec (F := F) (nw false c) :=
  cast14 (V6 m c) _ (V6_v8 m c)

theorem V7_v15 (c : Dev nD) : V7 m c (Proc.devRef .tc main_v15) = wordVec (F := F) (nw true c) :=
  cast15 (V6 m c) _ (V6_v12 m c)

theorem V7_arg0 (c : Dev nD) : V7 m c (Proc.devRef .tc main_arg0) = m ((c : Thread nD τ).loc main_arg0) :=
  (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans (V1_of m c main_arg0 (by decide))

theorem V7_arg1 (c : Dev nD) : V7 m c (Proc.devRef .tc main_arg1) = m ((c : Thread nD τ).loc main_arg1) :=
  (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans (V1_of m c main_arg1 (by decide))

end Words

end Cert.Ring16
end
-- ==== Proof.Ring16.Region.lean ====
/-
  The kernel as a region of the program: what its windows hold before and after, and what it takes from the launch.
-/
module

public import proofs.«01_k».proof.Proof.Ring16.Host
public import proofs.«01_k».proof.Proof.Gen.KernelIdeal.Regions
public import Idealize.ShloMosaic.Lib.Pipeline.ValueKit

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

section Region

variable (m : (ℓ : Loc nD τ sig) → Buf (Elt F) ℓ)

/-- The devices' blocks of the two operands. -/
abbrev xs (c : Dev nD) : FVec F S4096x256 .bf16 := m ((c : Thread nD τ).loc main_arg0)
abbrev ws (c : Dev nD) : FVec F S256x2048 .bf16 := m ((c : Thread nD τ).loc main_arg1)

/-- What a device's result holds. -/
abbrev res (c : Dev nD) : FVec F S4096x2048 .f32 := result (xs m) (ws m) c

/-- The kernel's proof data on device `c`. -/
def dat (c : Dev nD) : Dat τ (Elt F) ℕ ℕ UU ℕ cfg0 c where
  A w := V7 m c (Proc.devRef .tc (Pipeline.arrRef spec0 w))
  after := fun
    | 0 => fun _ => xs m c
    | 1 => fun _ => ws m c
    | 2 => fun _ => wordVec (F := F) (kw c)
    | 3 => fun _ => wordVec (F := F) (nw false c)
    | 4 => fun _ => wordVec (F := F) (nw true c)
    | 5 => fun _ => res m c
  Φ t := if t.val = 0 then iprop(Xk (xs m) (ws m) c ∗ restOf0 (F := F) c ∗ ∃ r, prngReg c r)
    else iprop(Yk (F := F) c ∗ zeros (F := F) c ∗ restOf0 (F := F) c ∗ ∃ r, prngReg c r)
  q _ := fullShare
  owed t := if t.val = 0 then O₀ c else 0

def dats (p : Fin 1) (c : Dev nD) : Dat τ (Elt F) ℕ ℕ UU ℕ (cfgs p) c := dat m c

theorem Φ_first (c : Dev nD) : (dat m c).Φ t0_0.castSucc = iprop(Xk (xs m) (ws m) c ∗ restOf0 (F := F) c ∗ ∃ r, prngReg c r) := by
  show (if (t0_0.castSucc : Fin (cfg0.N + 1)).val = 0 then iprop(Xk (xs m) (ws m) c ∗ restOf0 (F := F) c ∗ ∃ r, prngReg c r)
    else iprop(Yk (F := F) c ∗ zeros (F := F) c ∗ restOf0 (F := F) c ∗ ∃ r, prngReg c r)) = _
  exact if_pos rfl
theorem Φ_last (c : Dev nD) : (dat m c).Φ (Fin.last cfg0.N) = iprop(Yk (F := F) c ∗ zeros (F := F) c ∗ restOf0 (F := F) c ∗ ∃ r, prngReg c r) := by
  show (if (Fin.last cfg0.N).val = 0 then iprop(Xk (xs m) (ws m) c ∗ restOf0 (F := F) c ∗ ∃ r, prngReg c r)
    else iprop(Yk (F := F) c ∗ zeros (F := F) c ∗ restOf0 (F := F) c ∗ ∃ r, prngReg c r)) = _
  exact if_neg (by rw [Fin.val_last, show cfg0.N = 1 from N_0]; decide)
theorem owed_first (c : Dev nD) : (dat m c).owed t0_0.castSucc = O₀ c := by
  show (if (t0_0.castSucc : Fin (cfg0.N + 1)).val = 0 then O₀ c else 0) = _
  exact if_pos rfl
theorem owed_last (c : Dev nD) : (dat m c).owed (Fin.last cfg0.N) = 0 := by
  show (if (Fin.last cfg0.N).val = 0 then O₀ c else 0) = 0
  exact if_neg (by rw [Fin.val_last, show cfg0.N = 1 from N_0]; decide)

theorem owesAt_intro (c : Dev nD) (t : Fin (cfg0.N + 1)) (O : CellTallies nD τ sig ℕ) (h : (dat m c).owed t = O) :
    (owing c O : sProp 𝕄) ⊢ ((dat m c).owesAt 0 t : sProp 𝕄) := by
  unfold owing Dat.owesAt Pipeline.owesWithin Dat.bound
  rw [h]
  iintro ⟨%W, HO⟩; iexists W
  isplitr; · ipureintro; exact fun _ _ => Or.inl trivial
  iexact HO
theorem owesAt_elim (c : Dev nD) (t : Fin (cfg0.N + 1)) (O : CellTallies nD τ sig ℕ) (h : (dat m c).owed t = O) :
    ((dat m c).owesAt 0 t : sProp 𝕄) ⊢ (owing c O : sProp 𝕄) := by
  unfold owing Dat.owesAt Pipeline.owesWithin
  rw [h]
  iintro ⟨%W, -, HO⟩; iexists W; iexact HO

/-! ## What the windows hold -/

theorem before0 (c : Dev nD) (d) : (dat m c).before 0 t0_0 d = xs m c := by
  unfold Dat.before; rw [if_pos (fetch0_0 t0_0)]
  funext j
  show V7 m c (Proc.devRef .tc main_arg0) (((cfg0.win 0).blk t0_0).view.emb j) = _
  rw [V7_arg0]
  refine congrArg (xs m c) (funext fun a => Fin.ext ?_)
  blk_simp
  rw [show win0_0.index t0_0 a = 0 from rfl, Nat.zero_mul, Nat.zero_add]

theorem before1 (c : Dev nD) (d) : (dat m c).before 1 t0_0 d = ws m c := by
  unfold Dat.before; rw [if_pos (fetch0_1 t0_0)]
  funext j
  show V7 m c (Proc.devRef .tc main_arg1) (((cfg0.win 1).blk t0_0).view.emb j) = _
  rw [V7_arg1]
  refine congrArg (ws m c) (funext fun a => Fin.ext ?_)
  blk_simp
  rw [show win0_1.index t0_0 a = 0 from rfl, Nat.zero_mul, Nat.zero_add]

theorem before2 (c : Dev nD) (d) : (dat m c).before 2 t0_0 d = wordVec (F := F) (kw c) := by
  unfold Dat.before; rw [if_pos (fetch0_2 t0_0)]
  funext j
  show V7 m c (Proc.devRef .tc main_v13) (((cfg0.win 2).blk t0_0).view.emb j) = _
  rw [V7_v13]

theorem before3 (c : Dev nD) (d) : (dat m c).before 3 t0_0 d = wordVec (F := F) (nw false c) := by
  unfold Dat.before; rw [if_pos (fetch0_3 t0_0)]
  funext j
  show V7 m c (Proc.devRef .tc main_v14) (((cfg0.win 3).blk t0_0).view.emb j) = _
  rw [V7_v14]

theorem before4 (c : Dev nD) (d) : (dat m c).before 4 t0_0 d = wordVec (F := F) (nw true c) := by
  unfold Dat.before; rw [if_pos (fetch0_4 t0_0)]
  funext j
  show V7 m c (Proc.devRef .tc main_v15) (((cfg0.win 4).blk t0_0).view.emb j) = _
  rw [V7_v15]

theorem final5 (c : Dev nD) : (dat m c).arrAt 5 cfg0.N = res m c := by
  refine (dat m c).arrAt_eq_of_after_last 5 t0_0 (by decide +kernel) _ fun j => ?_
  blk_simp
  rfl

/-! ## The body's obligation -/

/-- What the region's program calls at its one point. -/
theorem body_at : (defs₀ (F := F) .tc cfg0.body (cfg0.bodyArgs t0_0 (cfg0.slots t0_0)))
    = bodyText (st0_0 t0_0) (st0_1 t0_0) (st0_2 t0_0) (st0_3 t0_0) (st0_4 t0_0) (st0_5 t0_0) chs :=
  body_text (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0)
    (Memref.whole cc0_scratch0) (Memref.isWhole_whole _) cc0_scratch1 cc0_scratch2 (Memref.whole cc0_scratch3) (Memref.isWhole_whole _) cc0_scratch4 cc0_scratch5
    (Memref.whole cc0_scratch6) (Memref.isWhole_whole _) cc0_scratch7 cc0_scratch8 (Memref.whole cc0_scratch9) (Memref.isWhole_whole _) cc0_scratch10 cc0_scratch11

theorem body_ob (c : Dev nD) : BodyObligation (dat m c) defs₀ 𝒱₀ 0 Set.univ := fun t => by
  obtain rfl := fin_N0 t
  rw [bigSep_W0, bigSep_W0, body_at, Φ_first, show (t0_0.succ : Fin (cfg0.N + 1)) = Fin.last cfg0.N from rfl, Φ_last]
  dsimp only
  iintro ⟨⟨HX, HR, Hreg⟩, HO, ⟨%d0, H0⟩, ⟨%d1, H1⟩, ⟨%d2, H2⟩, ⟨%d3, H3⟩, ⟨%d4, H4⟩, ⟨%d5, H5⟩⟩
  rw [before0, before1, before2, before3, before4]
  ihave HO' := (owesAt_elim m c _ (O₀ c) (owed_first m c)) $$ HO
  iapply (run_spec (xs m) (ws m) (st0_0 t0_0) (st0_1 t0_0) (st0_2 t0_0) (st0_3 t0_0) (st0_4 t0_0) (st0_5 t0_0) c _)
  unfold words
  isplitl [HX]; · iexact HX
  isplitl [HR]; · iexact HR
  isplitl [H2 H3 H4]
  · isplitl [H2]; · iexact H2
    isplitl [H3]; · iexact H3
    iexact H4
  isplitl [HO']; · iexact HO'
  isplitl [H0]; · iexact H0
  isplitl [H1]; · iexact H1
  isplitl [H5]; · iexists _; iexact H5
  iintro ⟨Hy, Hz, HR, ⟨H2, H3, H4⟩, HO, H0, H1, H5⟩
  isplitl [Hy Hz HR Hreg]
  · isplitl [Hy]; · iexact Hy
    isplitl [Hz]; · iexact Hz
    isplitl [HR]; · iexact HR
    iexact Hreg
  isplitl [HO]; · iapply (owesAt_intro m c _ 0 (owed_last m c)); iexact HO
  isplitl [H0]; · iexact H0
  isplitl [H1]; · iexact H1
  isplitl [H2]; · iexact H2
  isplitl [H3]; · iexact H3
  isplitl [H4]; · iexact H4
  iexact H5

/-! ## The region -/

/-- What the launch leaves for the kernel on device `c`. -/
def Tok (c : Dev nD) : sProp 𝕄 :=
  iprop(∃ K, ctx (sent (xs m) (ws m)) K ∗ bigSep Finset.univ (fun k : Fin 48 => (openTok ER (chEmb (c, k)) : sProp 𝕄)) ∗ allTok (F := F) c)

theorem hopen (c : Dev nD) : iprop(Tok m c ∗ Pipeline.ownSems0 chLoc c ∗ levAts L lv) ⊢ (|={Set.univ}=> Xk (xs m) (ws m) c : sProp 𝕄) := by
  unfold Tok Xk
  iintro ⟨⟨%K, #Hctx, Ho, Ht⟩, Hs, -⟩
  imod (open_all (sent (xs m) (ws m)) K c) $$ [Ho Hs] with Hp
  · isplitr; · iexact Hctx
    isplitl [Ho]; · iexact Ho
    unfold Pipeline.ownSems0
    iexact Hs
  imodintro
  iexists K
  isplitr; · iexact Hctx
  isplitl [Hp]; · iexact Hp
  iexact Ht

/-- The unscoped buffers no window stages. -/
abbrev others : Finset (DevRef τ sig) := Pipeline.ucRefs τ sig \ Pipeline.arrRefs (τ := τ) spec0

/-- The buffers after the kernel. -/
abbrev Wend (c : Dev nD) : Valuation τ sig (Elt F) := Function.update (V7 m c) (Proc.devRef .tc main_v16) (res m c)

theorem hin (c : Dev nD) : iprop(restOf0 (F := F) c ∗ (∃ r, prngReg c r) ∗ StableHlo.held (c.tc : Thread nD τ) (∅ : Finset (DevRef τ sig)) (V7 m c) ∗ Xk (xs m) (ws m) c)
    ⊢ (dat m c).Φ t0_0.castSucc := by
  rw [Φ_first]
  iintro ⟨HR, Hp, -, HX⟩
  isplitl [HX]; · iexact HX
  isplitl [HR]; · iexact HR
  iexact Hp

theorem hout (c : Dev nD) : (dat m c).Φ (Fin.last cfg0.N)
    ⊢ iprop(restOf0 (F := F) c ∗ (∃ r, prngReg c r) ∗ StableHlo.held (c.tc : Thread nD τ) (∅ : Finset (DevRef τ sig)) (Wend m c) ∗ Pipeline.ownSems0 chLoc c ∗ Yk (F := F) c) := by
  rw [Φ_last, show (StableHlo.held (c.tc : Thread nD τ) (∅ : Finset (DevRef τ sig)) (Wend m c) : sProp 𝕄) = BI.emp from bigSep_empty]
  iintro ⟨Hy, Hz, HR, Hp⟩
  isplitl [HR]; · iexact HR
  isplitl [Hp]; · iexact Hp
  isplitr; · iempintro
  isplitl [Hz]; · unfold Pipeline.ownSems0 zeros; iexact Hz
  iexact Hy

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_above (c : Dev nD) : Above 0 (O₀ c) :=
  ((((((Rem_above c (n := 30) (Nat.le_refl _)).mono (by omega)).add (Above.rc true true _ (by omega) (by omega))).add (Above.rc true false _ (by omega) (by omega))).add
    (Above.rc false true _ (by omega) (by omega))).add (Above.rc false false _ (by omega) (by omega))).add (Above.bar _ (by omega)) |>.add (Above.bar _ (by omega))

theorem owed_above (c : Dev nD) (t : Fin (cfg0.N + 1)) (g : GSem nD τ sig) (i : ℕ) (h : 0 < (dat m c).owed t g i) : i ∈ L g ∧ 0 < lv g i := by
  have e : (dat m c).owed t = if t.val = 0 then O₀ c else 0 := rfl
  rw [e] at h
  split at h
  · exact O₀_above c g i h
  · exact absurd h (Nat.lt_irrefl 0)

theorem stage_low : ∀ (w : Fin 6) (s : Fin (spec0 w).nbuf), ¬ 6 ≤ ((spec0 w).sem s).val := by decide +kernel

theorem stage_lv (c : Dev nD) (w : Fin 6) (s : Fin (spec0 w).nbuf) :
    0 ∈ L ((c : Thread nD τ), .dma ((spec0 w).sem s)) ∧ lv ((c : Thread nD τ), .dma ((spec0 w).sem s)) 0 ≤ 0 := by
  refine ⟨mem_L c _ (by decide), ?_⟩
  show (if 6 ≤ ((spec0 w).sem s).val ∧ 6 ≤ (((spec0 w).sem s).val - 6) % 12 then 2 + 0 else 0) ≤ 0
  rw [if_neg fun h => stage_low w s h.1]

theorem arr_start (c : Dev nD) (w : Fin 6) : (dat m c).arrAt w 0 = V7 m c (Proc.devRef .tc (Pipeline.arrRef spec0 w)) := rfl

theorem arr_keep (c : Dev nD) (w : Fin 6) (hi : (spec0 w).isOut = false) (hn : Proc.devRef (τ := τ) .tc (Pipeline.arrRef spec0 w) ≠ Proc.devRef .tc main_v16) :
    (dat m c).arrAt w cfg0.N = Wend m c (Proc.devRef .tc (Pipeline.arrRef spec0 w)) :=
  ((dat m c).arrAt_in w hi _).trans (show V7 m c (Proc.devRef .tc (Pipeline.arrRef spec0 w)) = Function.update (V7 m c) (Proc.devRef .tc main_v16) (res m c) _ by
    rw [Function.update_of_ne hn])

theorem arr_in : ∀ w : Fin 6, w ≠ 5 → (spec0 w).isOut = false ∧ Proc.devRef (τ := τ) .tc (Pipeline.arrRef spec0 w) ≠ Proc.devRef .tc main_v16 := by decide +kernel

theorem arr_end (c : Dev nD) (w : Fin 6) : (dat m c).arrAt w cfg0.N = Wend m c (Proc.devRef .tc (Pipeline.arrRef spec0 w)) := by
  by_cases h : w = 5
  · subst h
    refine (final5 m c).trans ?_
    show _ = Function.update (V7 m c) (Proc.devRef .tc main_v16) (res m c) (Proc.devRef .tc main_v16)
    rw [Function.update_self]
  · exact arr_keep m c w (arr_in w h).1 (arr_in w h).2

theorem share_full (c : Dev nD) (w : Fin 6) : (dat m c).share w = fullShare := by
  unfold Dat.share
  split <;> rfl

theorem rest_same (c : Dev nD) (b : DevRef τ sig) (h : b ∈ others \ ∅) : Wend m c b = V7 m c b := by
  refine Function.update_of_ne (fun e => ?_) ..
  subst e
  exact absurd h (by decide +kernel)

set_option backward.isDefEq.respectTransparency.types false in
def reg : Pipeline.RegionSeg (pcfgs (F := F)) adm (dats m) 0 defs₀ 𝒱₀ L lv 0 :=
  Pipeline.RegionSeg.ofTalk (pcfgs (F := F)) adm (dats m) 0 defs₀ 𝒱₀ L lv 0 chLoc (by decide +kernel : Pipeline.OwnSemFacts spec0 chLoc)
    ∅ others (Finset.empty_subset _) kitP rfl (fun c => (body_ob m c).loose)
    (fun _ => 0) O₀ (fun c => (owed_first m c).trans (zero_add _).symm) (owed_last m) (fun _ => rfl) (share_full m)
    (V7 m) (Wend m) (rest_same m)
    (Tok m) Yk (Xk (xs m) (ws m)) Yk (hopen m) (hin m) (hout m)
    (fun c => by iintro H; imodintro; iexact H)
    (fun _ => 0)
    ⟨fun c w s => (stage_lv c w s).1, fun c w s => (stage_lv c w s).2, fun c t g i h => owed_above m c t g i h⟩
    (fun _ => iprop(emp))
    (arr_start m) (arr_end m)

theorem arrs_uc : Pipeline.arrRefs (τ := τ) spec0 ⊆ Pipeline.ucRefs τ sig := Pipeline.arrRefs_sub_ucRefs spec0 (by decide +kernel)

/-- What every device carries beside its buffers before the kernel, and after it. -/
def Eat (c : Dev nD) : Fin 2 → sProp 𝕄
  | 0 => iprop(Tok m c ∗ (∃ r, prngReg c r) ∗ ∃ W, owes (c : Thread nD τ) (O₀ c) W)
  | 1 => iprop(Yk (F := F) c ∗ (∃ r, prngReg c r) ∗ ∃ W, owes (c : Thread nD τ) (0 : CellTallies nD τ sig ℕ) W)

theorem reg_pre (c : Dev nD) : iprop(StableHlo.held (c.tc : Thread nD τ) (Pipeline.ucRefs τ sig) (V7 m c) ∗ Eat m c 0) ⊢ ((reg m).pre c : sProp 𝕄) := by
  show _ ⊢ iprop(StableHlo.held (c.tc : Thread nD τ) (Pipeline.arrRefs spec0) (V7 m c) ∗ (∃ r, prngReg c r)
    ∗ (StableHlo.held (c.tc : Thread nD τ) others (V7 m c) ∗ emp) ∗ Tok m c ∗ ∃ Wd, owes (c : Thread nD τ) (0 + O₀ c) Wd)
  rw [zero_add, StableHlo.held_sub_split (c.tc : Thread nD τ) arrs_uc (V7 m c)]
  unfold Eat
  iintro ⟨⟨Ha, Ho⟩, Ht, Hp, HO⟩
  isplitl [Ha]; · iexact Ha
  isplitl [Hp]; · iexact Hp
  isplitl [Ho]
  · isplitl [Ho]; · iexact Ho
    iempintro
  isplitl [Ht]; · iexact Ht
  iexact HO

theorem reg_post (c : Dev nD) : ((reg m).post c : sProp 𝕄) ⊢ iprop(StableHlo.held (c.tc : Thread nD τ) (Pipeline.ucRefs τ sig) (Wend m c) ∗ Eat m c 1) := by
  show iprop(StableHlo.held (c.tc : Thread nD τ) (Pipeline.arrRefs spec0) (Wend m c) ∗ (∃ r, prngReg c r)
    ∗ (StableHlo.held (c.tc : Thread nD τ) others (Wend m c) ∗ emp) ∗ Yk (F := F) c ∗ ∃ Wd, owes (c : Thread nD τ) (0 : CellTallies nD τ sig ℕ) Wd) ⊢ _
  rw [StableHlo.held_sub_split (c.tc : Thread nD τ) arrs_uc (Wend m c)]
  unfold Eat
  iintro ⟨Ha, Hp, ⟨Ho, -⟩, Ht, HO⟩
  isplitl [Ha Ho]
  · isplitl [Ha]; · iexact Ha
    iexact Ho
  isplitl [Ht]; · iexact Ht
  isplitl [Hp]; · iexact Hp
  iexact HO

end Region

end Cert.Ring16
end
-- ==== Proof.Ring16.Deal.lean ====
/-
What the launch deals every device: the tokens of the duties it pays and the credit of what it is owed.
-/
module

public import proofs.«01_k».proof.Proof.Ring16.Region

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

/-! ## The tokens of the duties -/

theorem chNo_inj (d s d' s' : Bool) (h : chNo d s = chNo d' s') : d = d' ∧ s = s' := by
  revert d s d' s'; decide

/-- The token of message `n` on channel `(d, s)` from device `c`: of the receive duty, or of the send duty. -/
def msgTok (x : Dev nD × Bool × Bool × Bool × Fin 30) : GSem nD τ sig × ℕ × Bool :=
  (cond x.2.2.2.1 (sc x.2.1 x.2.2.1 x.1 x.2.2.2.2.val) (rc x.2.1 x.2.2.1 (tgt x.2.1 x.1) x.2.2.2.2.val), x.2.2.2.2.val / 6, false)

theorem msgTok_at (c : Dev nD) (d s b : Bool) (n : ℕ) :
    cond b (sc d s c n) (rc d s (tgt d c) n) = chEmb (cond b c (tgt d c), ⟨12 * chNo d s + cond b (n % 6) (6 + (n + 1) % 6), by
      have := chNo_lt d s; cases b <;> dsimp only [cond_true, cond_false] <;> omega⟩) := by
  cases b
  · rw [cond_false, rc_ch]; refine congrArg chEmb (Prod.ext rfl (Fin.ext ?_)); dsimp only [cond_false]; omega
  · rw [cond_true, sc_ch]; rfl

theorem msgTok_inj : Function.Injective msgTok := by
  rintro ⟨c, d, s, b, n⟩ ⟨c', d', s', b', n'⟩ h
  have h1 : cond b (sc d s c n.val) (rc d s (tgt d c) n.val) = cond b' (sc d' s' c' n'.val) (rc d' s' (tgt d' c') n'.val) := congrArg Prod.fst h
  have h2 : n.val / 6 = n'.val / 6 := congrArg (fun x : GSem nD τ sig × ℕ × Bool => x.2.1) h
  rw [msgTok_at, msgTok_at] at h1
  have h3 := chEmb.injective h1
  have hc := congrArg Prod.fst h3
  have hv : 12 * chNo d s + cond b (n.val % 6) (6 + (n.val + 1) % 6) = 12 * chNo d' s' + cond b' (n'.val % 6) (6 + (n'.val + 1) % 6) :=
    congrArg (fun x : Dev nD × Fin 48 => x.2.val) h3
  have hb : b = b' ∧ chNo d s = chNo d' s' ∧ n.val = n'.val := by
    cases b <;> cases b' <;> simp only [cond_true, cond_false] at hv <;> refine ⟨?_, ?_, ?_⟩ <;> first | rfl | omega
  obtain ⟨rfl, hk, hn⟩ := hb
  obtain ⟨rfl, rfl⟩ := chNo_inj _ _ _ _ hk
  obtain rfl := Fin.ext hn
  have : c = c' := by
    cases b
    · dsimp only [cond_false] at hc
      rw [← src_tgt d c, ← src_tgt d c', hc]
    · exact hc
  rw [this]

/-- The token of one of the two signals device `c` gives before the exchange. -/
def sigTok (x : Dev nD × Bool) : GSem nD τ sig × ℕ × Bool := (barCell (tgt x.2 x.1), 0, !x.2)

theorem sigTok_inj : Function.Injective sigTok := by
  rintro ⟨c, b⟩ ⟨c', b'⟩ h
  have hb : (!b) = !b' := congrArg (fun x : GSem nD τ sig × ℕ × Bool => x.2.2) h
  have hb' : b = b' := by cases b <;> cases b' <;> first | rfl | exact absurd hb (by decide)
  subst hb'
  have hc : tgt b c = tgt b c' := barEmb.injective (congrArg Prod.fst h)
  rw [← src_tgt b c, ← src_tgt b c', hc]

theorem cells_apart (c : Dev nD) (x : Dev nD × Fin 48) : barCell c ≠ chEmb x := fun h => by
  have h2 := congrArg Prod.snd h
  exact absurd h2 (by show SemLoc.reg barSem ≠ SemLoc.dma _; simp)

def msgToks : Finset (GSem nD τ sig × ℕ × Bool) := Finset.univ.map ⟨msgTok, msgTok_inj⟩
def sigToks : Finset (GSem nD τ sig × ℕ × Bool) := Finset.univ.map ⟨sigTok, sigTok_inj⟩

theorem toks_apart : Disjoint sigToks msgToks := by
  rw [Finset.disjoint_left]
  rintro x h1 h2
  obtain ⟨⟨c, b⟩, -, rfl⟩ := Finset.mem_map.mp h1
  obtain ⟨⟨c', d, s, b', n⟩, -, h⟩ := Finset.mem_map.mp h2
  have h3 : cond b' (sc d s c' n.val) (rc d s (tgt d c') n.val) = barCell (tgt b c) := congrArg Prod.fst h
  rw [msgTok_at] at h3
  exact cells_apart _ _ h3.symm

def allToks : Finset (GSem nD τ sig × ℕ × Bool) := sigToks ∪ msgToks

/-- Device `c`'s tokens. -/
def chToks (d s : Bool) (c : Dev nD) : sProp 𝕄 := iprop(win 0 30 (rcTok d s c) ∗ win 0 30 (scTok d s c))
def toks (c : Dev nD) : sProp 𝕄 :=
  iprop((dutyTok ER (barCell (tgt false c)) 0 true ∗ dutyTok ER (barCell (tgt true c)) 0 false)
    ∗ ((chToks false false c ∗ chToks false true c) ∗ (chToks true false c ∗ chToks true true c)))

theorem toks_eq : bigSep allToks (fun x => (dutyTok ER x.1 x.2.1 x.2.2 : sProp 𝕄)) = bigSep Finset.univ fun c : Dev nD => toks c := by
  have hm (d s : Bool) (c : Dev nD) : bigSep Finset.univ (fun bn : Bool × Fin 30 =>
      (dutyTok ER (msgTok (c, d, s, bn)).1 (msgTok (c, d, s, bn)).2.1 (msgTok (c, d, s, bn)).2.2 : sProp 𝕄)) = chToks d s c := by
    rw [bigSep_univ_prod, both]
    unfold chToks
    rw [← win_fin, ← win_fin]
    rfl
  unfold allToks sigToks msgToks
  rw [bigSep_union (by exact toks_apart), bigSep_map, bigSep_map, bigSep_univ_prod, bigSep_univ_prod]
  refine (bigSep_sep' Finset.univ _ _).symm.trans ?_
  refine bigSep_congr fun c _ => ?_
  unfold toks
  rw [both, bigSep_univ_prod]
  refine congrArg₂ _ rfl ?_
  rw [← four (fun d s => chToks d s c)]
  refine bigSep_congr fun d _ => ?_
  rw [bigSep_univ_prod]
  exact bigSep_congr fun s _ => hm d s c

/-! ## The credit -/

/-- What device `c` is owed for message `h + 1` of a channel. -/
def dueIn (d s : Bool) (c : Dev nD) (h : ℕ) : CellTallies nD τ sig ℕ := if h < 29 then tallyAt (rc d s c (h + 1)) (h + 1) N else 0
/-- What device `c` is owed for the last messages. -/
def RemIn (c : Dev nD) : ℕ → CellTallies nD τ sig ℕ
  | 0 => 0
  | n + 1 => RemIn c n + dueIn true true c (29 - n) + dueIn false true c (29 - n) + dueIn true false c (29 - n) + dueIn false false c (29 - n)
/-- All device `c` is owed. -/
def M (c : Dev nD) : CellTallies nD τ sig ℕ :=
  RemIn c 30 + tallyAt (rc true true c 0) 0 N + tallyAt (rc true false c 0) 0 N + tallyAt (rc false true c 0) 0 N + tallyAt (rc false false c 0) 0 N
    + tallyAt (barCell c) 0 1 + tallyAt (barCell c) 0 1

def around (d : Bool) : Dev nD ≃ Dev nD := ⟨tgt d, src d, src_tgt d, tgt_src d⟩

theorem sum_around (d : Bool) (f : Dev nD → CellTallies nD τ sig ℕ) : ∑ c : Dev nD, f (tgt d c) = ∑ c : Dev nD, f c :=
  Equiv.sum_comp (around d) f

theorem sum_due (d s : Bool) (h : ℕ) : ∑ c : Dev nD, due d s c h = ∑ c : Dev nD, dueIn d s c h := sum_around d fun c => dueIn d s c h

theorem sum_Rem (n : ℕ) : ∑ c : Dev nD, Rem c n = ∑ c : Dev nD, RemIn c n := by
  induction n with
  | zero => rfl
  | succ n ih => simp only [Rem, RemIn, Finset.sum_add_distrib, ih, sum_due]

theorem sum_owed : ∑ c : Dev nD, O₀ c = ∑ c : Dev nD, M c := by
  unfold O₀ M
  simp only [Finset.sum_add_distrib, sum_Rem]
  rw [sum_around true fun c => tallyAt (rc true true c 0) 0 N, sum_around true fun c => tallyAt (rc true false c 0) 0 N,
    sum_around false fun c => tallyAt (rc false true c 0) 0 N, sum_around false fun c => tallyAt (rc false false c 0) 0 N,
    sum_around true fun c => tallyAt (barCell c) 0 1, sum_around false fun c => tallyAt (barCell c) 0 1]

/-- Tallies of device `c`'s cells only. -/
def At (c : Dev nD) (O : CellTallies nD τ sig ℕ) : Prop := ∀ g : GSem nD τ sig, g.1 ≠ (c : Thread nD τ) → O g = 0

theorem At.zero (c : Dev nD) : At c 0 := fun _ _ => rfl
theorem At.add {c : Dev nD} {O O' : CellTallies nD τ sig ℕ} (h : At c O) (h' : At c O') : At c (O + O') := fun g hg => by
  rw [Pi.add_apply, h g hg, h' g hg, add_zero]
theorem At.tally (c : Dev nD) (sm : SemLoc sig) (i n : ℕ) : At c (tallyAt ((c : Thread nD τ), sm) i n) := fun g hg =>
  tallyAt_ne_cell (fun h => hg (congrArg Prod.fst h)) _ _
theorem At.due (c : Dev nD) (d s : Bool) (h : ℕ) : At c (dueIn d s c h) := by
  unfold dueIn; split
  · exact At.tally c _ _ _
  · exact At.zero c
theorem At.rem (c : Dev nD) (n : ℕ) : At c (RemIn c n) := by
  induction n with
  | zero => exact At.zero c
  | succ n ih => exact (((ih.add (At.due c _ _ _)).add (At.due c _ _ _)).add (At.due c _ _ _)).add (At.due c _ _ _)
theorem M_at (c : Dev nD) : At c (M c) :=
  ((((((At.rem c 30).add (At.tally c _ _ _)).add (At.tally c _ _ _)).add (At.tally c _ _ _)).add (At.tally c _ _ _)).add (At.tally c _ _ _)).add (At.tally c _ _ _)

theorem launch_M (c : Dev nD) (sm : SemLoc sig) : launchCredit (Pipeline.owing O₀) 0 ((c : Thread nD τ), sm) = M c ((c : Thread nD τ), sm) := by
  refine Finsupp.ext fun i => ?_
  have h := congrArg (fun T : CellTallies nD τ sig ℕ => T ((c : Thread nD τ), sm) i) sum_owed
  simp only [Finset.sum_apply, Finsupp.finset_sum_apply] at h
  rw [Pipeline.launchCredit_owing, h, Finset.sum_eq_single c]
  · intro b _ hb
    rw [M_at b _ fun e => hb (congrArg (fun t : Thread nD τ => t.1) e).symm]; rfl
  · exact fun h => absurd (Finset.mem_univ c) h

theorem cred_M (c : Dev nD) : (Pipeline.launchCred O₀ c : sProp 𝕄) = cred (M c) := by
  rw [cred_cells, bigSep_univ_prod, bigSep_univ_at _ (c : Thread nD τ),
    bigSep_congr (s := Finset.univ.erase (c : Thread nD τ)) (Ψ := fun _ => (BI.emp : sProp 𝕄)) fun t ht => ?_, BI.bigSep_emp_const]
  · unfold Pipeline.launchCred
    simp only [launch_M]
    exact (BI.equiv_iff.mp sep_emp).symm
  · rw [bigSep_congr (s := Finset.univ) (Ψ := fun _ => (BI.emp : sProp 𝕄)) fun sm _ => ?_, BI.bigSep_emp_const]
    rw [M_at c (t, sm) (Finset.ne_of_mem_erase ht), show tallyOn ((t, sm) : GSem nD τ sig) (0 : Tally ℕ) = 0 from Pi.single_zero _, cred_zero]
    rfl

theorem cred_plus (a b : CellTallies nD τ sig ℕ) : (cred (a + b) : sProp 𝕄) = iprop(cred a ∗ cred b) :=
  BI.Entails.antisymm (cred_add _ _).1 (cred_add _ _).2

/-- The four channels' credit from message `a` on. -/
def quad (c : Dev nD) (a : ℕ) : sProp 𝕄 :=
  iprop((win a 30 (rcCred false false c) ∗ win a 30 (rcCred false true c)) ∗ (win a 30 (rcCred true false c) ∗ win a 30 (rcCred true true c)))

theorem quad_end (c : Dev nD) : (BI.emp : sProp 𝕄) ⊢ quad c 30 := by
  unfold quad
  rw [win_nil (Nat.le_refl _), win_nil (Nat.le_refl _), win_nil (Nat.le_refl _), win_nil (Nat.le_refl _)]
  iintro H
  isplitl [H]
  · isplitl [H]; · iexact H
    iempintro
  isplitr <;> iempintro

theorem quad_step (c : Dev nD) {a : ℕ} (h : a < 30) :
    iprop((((quad c (a + 1) ∗ rcCred true true c a) ∗ rcCred false true c a) ∗ rcCred true false c a) ∗ rcCred false false c a) ⊢ (quad c a : sProp 𝕄) := by
  unfold quad
  rw [win_bot h, win_bot h, win_bot h, win_bot h]
  iintro ⟨⟨⟨⟨⟨⟨Q1, Q2⟩, Q3, Q4⟩, H4⟩, H2⟩, H3⟩, H1⟩
  isplitl [Q1 H1 Q2 H2]
  · isplitl [Q1 H1]
    · isplitl [H1]; · iexact H1
      iexact Q1
    isplitl [H2]; · iexact H2
    iexact Q2
  isplitl [Q3 H3]
  · isplitl [H3]; · iexact H3
    iexact Q3
  isplitl [H4]; · iexact H4
  iexact Q4

theorem quad_rem (c : Dev nD) (n : ℕ) (hn : n < 30) : (cred (RemIn c (n + 1)) : sProp 𝕄) ⊢ quad c (30 - n) := by
  induction n with
  | zero =>
    rw [show RemIn c (0 + 1) = 0 by simp [RemIn, dueIn], cred_zero]
    exact quad_end c
  | succ n ih =>
    have e (d s : Bool) : dueIn d s c (29 - (n + 1)) = tallyAt (rc d s c (30 - (n + 1))) (30 - (n + 1)) N := by
      unfold dueIn
      rw [if_pos (by omega), show 29 - (n + 1) + 1 = 30 - (n + 1) by omega]
    rw [show RemIn c (n + 1 + 1) = RemIn c (n + 1) + dueIn true true c (29 - (n + 1)) + dueIn false true c (29 - (n + 1)) + dueIn true false c (29 - (n + 1)) + dueIn false false c (29 - (n + 1)) from rfl,
      e, e, e, e, cred_plus, cred_plus, cred_plus, cred_plus]
    have hs := quad_step (F := F) c (a := 30 - (n + 1)) (by omega)
    rw [show 30 - (n + 1) + 1 = 30 - n by omega] at hs
    refine BI.Entails.trans ?_ hs
    exact Laws.sep_mono_left (Laws.sep_mono_left (Laws.sep_mono_left (Laws.sep_mono_left (ih (by omega)))))

theorem creds (c : Dev nD) : (Pipeline.launchCred O₀ c : sProp 𝕄) ⊢ iprop(quad c 0 ∗ cred (tallyAt (barCell c) 0 2)) := by
  rw [cred_M, show M c = RemIn c 30 + tallyAt (rc true true c 0) 0 N + tallyAt (rc false true c 0) 0 N + tallyAt (rc true false c 0) 0 N + tallyAt (rc false false c 0) 0 N
    + tallyAt (barCell c) 0 2 by
      unfold M
      rw [show (tallyAt (barCell c) 0 2 : CellTallies nD τ sig ℕ) = tallyAt (barCell c) 0 1 + tallyAt (barCell c) 0 1 by
        unfold tallyAt; rw [← tallyOn_add, ← Finsupp.single_add]]
      abel,
    cred_plus, cred_plus, cred_plus, cred_plus, cred_plus]
  have h := quad_rem (F := F) c 29 (by omega)
  refine Laws.sep_mono_left ?_
  refine BI.Entails.trans ?_ (quad_step c (by omega))
  exact Laws.sep_mono_left (Laws.sep_mono_left (Laws.sep_mono_left (Laws.sep_mono_left h)))

theorem chTok_intro (d s : Bool) (c : Dev nD) : iprop(win 0 30 (rcCred d s c) ∗ chToks d s c) ⊢ (chTok d s c : sProp 𝕄) := by
  unfold chToks chTok
  iintro ⟨H1, H2, H3⟩
  isplitl [H1]; · iexact H1
  isplitl [H2]; · iexact H2
  iexact H3

theorem all_intro (c : Dev nD) :
    iprop(atPos ER (barCell c) 0 ∅ 0 ∗ toks c ∗ quad c 0 ∗ cred (tallyAt (barCell c) 0 2)) ⊢ (allTok c : sProp 𝕄) := by
  unfold toks quad allTok barTok
  iintro ⟨Ha, ⟨⟨Tf, Tt⟩, ⟨A1, A2⟩, A3, A4⟩, ⟨⟨Q1, Q2⟩, Q3, Q4⟩, Hc⟩
  isplitl [Ha Tf Tt Hc]
  · isplitl [Ha]; · iexact Ha
    isplitl [Hc]; · iexact Hc
    isplitl [Tt]; · iexact Tt
    iexact Tf
  isplitl [A1 A2 Q1 Q2]
  · isplitl [A1 Q1]
    · iapply (chTok_intro (F := F) false false c)
      isplitl [Q1]; · iexact Q1
      iexact A1
    iapply (chTok_intro (F := F) false true c)
    isplitl [Q2]; · iexact Q2
    iexact A2
  isplitl [A3 Q3]
  · iapply (chTok_intro (F := F) true false c)
    isplitl [Q3]; · iexact Q3
    iexact A3
  iapply (chTok_intro (F := F) true true c)
  isplitl [Q4]; · iexact Q4
  iexact A4

end Cert.Ring16
end
-- ==== Proof.Ring16.Launch.lean ====
/-
The launch and the run of the whole program on the sixteen devices.
-/
module

public import proofs.«01_k».proof.Proof.Ring16.Deal

@[expose] public section

noncomputable section

namespace Cert.Ring16

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig ℕ (Elt F) ℕ UU ℕ

theorem same {P Q : sProp 𝕄} (h : P = Q) : P ⊢ Q := by rw [h]

section Launch

variable (m : (ℓ : Loc nD τ sig) → Buf (Elt F) ℓ) (ρ : Dev nD → PrngReg)

theorem disjoint_cells : Disjoint (barCells : Finset (GSem nD τ sig)) chCells := by
  rw [Finset.disjoint_left]
  rintro g h₁ h₂
  obtain ⟨c, -, rfl⟩ := Finset.mem_map.mp h₁
  obtain ⟨x, -, h⟩ := Finset.mem_map.mp h₂
  exact cells_apart c x h.symm

/-- The launch element: the staging rounds' and the protocol's. -/
def u₀ : UU := (initOf (Pipeline.cells cfgs cellOf_inj) (Pipeline.launchToks cfgs cellOf_inj), launchOf barCells chCells allToks)

/-- A resource held by device 0 until it is dealt out. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells chCells allToks)))

theorem sems_eq (c : Dev nD) : (unscopedSems0 c : sProp 𝕄) = semVal (barCell c) 0 := by
  unfold unscopedSems0
  rw [show (Finset.univ.filter fun sm : SemLoc sig => ¬ sm.isScoped .tc) = {SemLoc.reg barSem} from by decide, bigSep_singleton]

/-- What stays with device `c` of the protocol's launch element. -/
def linear (c : Dev nD) : sProp 𝕄 :=
  iprop(atPos ER (barCell c) 0 ∅ 0 ∗ bigSep Finset.univ (fun k : Fin 48 => (openTok ER (chEmb (c, k)) : sProp 𝕄)) ∗ toks c)

/-- What a device holds at launch besides. -/
def bundle (c : Dev nD) : sProp 𝕄 :=
  iprop(StableHlo.held (c : Thread nD τ) (Pipeline.ucRefs τ sig) (V0 m c) ∗ (quad c 0 ∗ cred (tallyAt (barCell c) 0 2))
    ∗ owes (c : Thread nD τ) (O₀ c) ∅ ∗ ∃ r, prngReg c r)

abbrev Tstart (c : Dev nD) : sProp 𝕄 := iprop(StableHlo.held (c : Thread nD τ) (Pipeline.ucRefs τ sig) (V0 m c) ∗ Eat m c 0)
abbrev Tend (c : Dev nD) : sProp 𝕄 := iprop(StableHlo.held (c : Thread nD τ) (Pipeline.ucRefs τ sig) (Wend m c) ∗ semVal (barCell c) 0)

theorem start_intro (κ : GSem nD τ sig → ℕ) (c : Dev nD) : iprop(ctx (sent (xs m) (ws m)) κ ∗ (linear c ∗ bundle m c)) ⊢ Tstart m c := by
  unfold linear bundle Tstart Eat Tok
  iintro ⟨#HR, ⟨Ha, Hopen, Ht⟩, Hh, ⟨Hq, Hc⟩, HO, Hp⟩
  isplitl [Hh]; · iexact Hh
  isplitl [Ha Hopen Ht Hq Hc]
  · iexists κ
    isplitr; · iexact HR
    isplitl [Hopen]; · iexact Hopen
    iapply (all_intro (F := F) c)
    isplitl [Ha]; · iexact Ha
    isplitl [Ht]; · iexact Ht
    isplitl [Hq]; · iexact Hq
    iexact Hc
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (Tstart m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c)
      from Pipeline.unscopedBufs_held c (V0 m c), sems_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    same (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    same (bigSep_map (s := Finset.univ) barEmb (Φ := fun g : GSem nD τ sig => (atPos ER g 0 ∅ 0 : sProp 𝕄)))
  have hop : bigSep chCells (fun g => (openTok ER g : sProp 𝕄))
      ⊢ bigSep Finset.univ (fun c : Dev nD => bigSep Finset.univ (fun k : Fin 48 => (openTok ER (chEmb (c, k)) : sProp 𝕄))) :=
    same (by rw [bigSep_map, bigSep_univ_prod])
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (same (bigSep_sep' Finset.univ (bundle m) fun c : Dev nD => iprop(semVal (barCell c) 0 ∗ G c))) $$ H'
  icases H2 with ⟨HB, H3⟩
  ihave H4 := (same (bigSep_sep' Finset.univ (fun c : Dev nD => (semVal (barCell c) 0 : sProp 𝕄)) G)) $$ H3
  icases H4 with ⟨Hv, HG⟩
  ihave Hu := (show bigSep Finset.univ (G (F := F)) ⊢ BI.own (ER (launchOf barCells chCells allToks)) from
    same (bigSep_onZero (F := F) (BI.own (ER (launchOf barCells chCells allToks))))) $$ HG
  imod (Rounds.fund_launch ER (Rd (sent (xs m) (ws m))) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := ctx (sent (xs m) (ws m)) κ) (Φ := fun c => iprop(linear c ∗ bundle m c)) fun c _ => start_intro m κ c)
  isplitr
  · unfold ctx
    isplitr; · iexact Hinv
    isplitr; · iexact Hr
    iexact HL
  iapply (same (bigSep_sep' Finset.univ linear (bundle m)).symm)
  isplitr [HB]
  · unfold linear
    iapply (same (bigSep_sep' Finset.univ (fun c : Dev nD => (atPos ER (barCell c) 0 ∅ 0 : sProp 𝕄))
      fun c => iprop(bigSep Finset.univ (fun k : Fin 48 => (openTok ER (chEmb (c, k)) : sProp 𝕄)) ∗ toks c)).symm)
    isplitl [Hat]; · iapply hat $$ Hat
    iapply (same (bigSep_sep' Finset.univ (fun c : Dev nD => bigSep Finset.univ (fun k : Fin 48 => (openTok ER (chEmb (c, k)) : sProp 𝕄))) toks).symm)
    isplitl [Hopen]; · iapply hop $$ Hopen
    iapply (same (toks_eq (F := F))) $$ Htok
  · iexact HB

theorem unscoped_eq : ∀ sm : SemLoc sig, sm.isScoped .tc = false → sm = .reg barSem := by decide

theorem Wend_res (c : Dev nD) : Wend m c (Proc.devRef .tc main_v16) = res m c := Function.update_self ..
theorem Wend_arg0 (c : Dev nD) : Wend m c (Proc.devRef .tc main_arg0) = m ((c : Thread nD τ).loc main_arg0) :=
  (Function.update_of_ne (by decide) ..).trans (V7_arg0 m c)
theorem Wend_arg1 (c : Dev nD) : Wend m c (Proc.devRef .tc main_arg1) = m ((c : Thread nD τ).loc main_arg1) :=
  (Function.update_of_ne (by decide) ..).trans (V7_arg1 m c)

set_option backward.isDefEq.respectTransparency.types false in
/-- The run: every weakly fair execution from zero counters ends, with the two operands unchanged, the result computed and every counter zero. -/
theorem run_main : θ_run defs (onTc (τ := τ) (main (F := F))) ⟨m, fun _ => 0, ρ⟩
    (fun r => (∀ c : Dev nD, r.2.mem ((c.tc : Thread nD τ).loc main_v16) = res m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  refine Pipeline.θ_run_regions_kit_dev_sems (pcfgs (F := F)) adm (dats m) 0 cellOf_inj EP defs₀ 𝒱₀ L lv m ρ main
    (segs m 𝒱₀ L lv (fun i c => Eat m c i) 0 (dats m) (reg m))
    (fun c Q => by
      rewrite [main_chain c, Pipeline.Seg.run_eq_chain,
        show (segs m 𝒱₀ L lv (fun i c => Eat m c i) 0 (dats m) (reg m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6,
          Prog.lift (.customCall (Pipeline.entry 0) ())] from rfl]
      dsimp (config := { failIfUnchanged := false }) only
      exact BI.Entails.refl _)
    (fun c => by simp only [segs, Pipeline.Seg.pipes_host, Pipeline.Seg.pipes_region, Pipeline.Seg.pipes_nil]; decide)
    O₀ L_of_ne (G (F := F)) u₀ ?_ (Tstart m) (Tend m)
    (fun c => ⟨BI.Entails.refl _, BI.Entails.refl _, BI.Entails.refl _, BI.Entails.refl _, BI.Entails.refl _, BI.Entails.refl _, BI.Entails.refl _, reg_pre m c, (reg_post m c).trans ?_⟩)
    (init m ρ)
    (fun c s => (s.mem ((c.tc : Thread nD τ).loc main_v16) = res m c
        ∧ s.mem ((c.tc : Thread nD τ).loc main_arg0) = m ((c.tc : Thread nD τ).loc main_arg0)
        ∧ s.mem ((c.tc : Thread nD τ).loc main_arg1) = m ((c.tc : Thread nD τ).loc main_arg1)) ∧ s.sem (barCell c) = 0)
    (fun c s' => ?_) (fun s h hs => ⟨fun c => (h c).1, sem_eq_zero hs fun c sm hsm => by
        obtain rfl := unscoped_eq sm hsm
        exact (h c).2⟩)
  · unfold u₀ G
    iintro Hu
    ihave H := (ownU_pair _ _) $$ Hu
    icases H with ⟨HP, HX⟩
    imodintro
    isplitl [HP]; · iexact HP
    rw [bigSep_onZero]; iexact HX
  · unfold Tend Eat Yk
    iintro ⟨Hh, Hb, -, HO⟩
    isplitr [HO]
    · isplitl [Hh]; · iexact Hh
      iexact Hb
    · iexact HO
  · unfold Tend StableHlo.held
    iintro ⟨⟨Hh, Hb0⟩, HSI⟩
    ihave Hr := (pointsTo_read_all (Pipeline.ucRefs τ sig) (fun b => ((c : Thread nD τ).1, b)) (Wend m c) s') $$ [Hh HSI]
    · isplitl [Hh]; · iexact Hh
      iexact HSI
    icases Hr with ⟨%h, HSI⟩
    icombine HSI Hb0 gives %hb
    imodintro
    isplitr
    · ipureintro
      exact ⟨⟨(h (Proc.devRef .tc main_v16) (Finset.mem_filter.mpr ⟨StableHlo.devRef_mem_tcRefs main_v16, by decide⟩)).trans (Wend_res m c),
        (h (Proc.devRef .tc main_arg0) (Finset.mem_filter.mpr ⟨StableHlo.devRef_mem_tcRefs main_arg0, by decide⟩)).trans (Wend_arg0 m c),
        (h (Proc.devRef .tc main_arg1) (Finset.mem_filter.mpr ⟨StableHlo.devRef_mem_tcRefs main_arg1, by decide⟩)).trans (Wend_arg1 m c)⟩, by simpa using hb⟩
    · iexact HSI

end Launch

end Cert.Ring16
end
-- ==== Proof.Ring16.Sum.lean ====
/-
  The values at the extended reals: every message is a sum of the devices' products, and the result is the sum of all sixteen, which is
  the product of the whole operands.
-/
module

public import proofs.«01_k».proof.Proof.Ring16.Vals
public import Idealize.ShloMosaic.Lib.Pointwise
public import Idealize.ShloMosaic.Lib.Layout

@[expose] public section

noncomputable section

namespace Cert.Ring16

open Cert.KernelIdeal Cert.KernelIdeal.Gen

open Idealize.ShloMosaic
open Idealize.ShloMosaic.TcCoe

/-! ## Entries by natural numbers -/

/-- The entry of a matrix at a row and a column given as natural numbers; zero outside it. -/
def entry {a b : ℕ} (v : (⟨2, ![a, b]⟩ : Shape).Idx → EReal) (r k : ℕ) : EReal :=
  if h : r < a ∧ k < b then v (ix2 (⟨r, h.1⟩ : Fin a) (⟨k, h.2⟩ : Fin b)) else 0

theorem entry_of {a b : ℕ} (v : (⟨2, ![a, b]⟩ : Shape).Idx → EReal) (i : (⟨2, ![a, b]⟩ : Shape).Idx) {r k : ℕ}
    (hr : (i 0).val = r) (hk : (i 1).val = k) : v i = entry v r k := by
  subst hr hk
  have h0 : (i 0).val < a := (i 0).isLt
  have h1 : (i 1).val < b := (i 1).isLt
  rw [entry, dif_pos ⟨h0, h1⟩]
  exact congrArg v (eq_ix2 i)

/-! ## One product -/

section Products

variable (xb : Dev nD → FVec Ideal S4096x256 .bf16) (wb : Dev nD → FVec Ideal S256x2048 .bf16)

/-- The part of an entry of the whole product that device `c` computes. -/
def bp (c : Dev nD) (r q : ℕ) : EReal := ∑ k : Fin 256, entry (xb c) r k.val * entry (wb c) k.val q

theorem prod_apply (w : FVec Ideal S256x1024 .bf16) (x : Vec Ideal S256x256 .bf16) (j : S256x1024.Idx) :
    prod w x j = ∑ k : Fin 256, (x (ix2 (j 0) k) : EReal) * w (ix2 k (j 1)) := by
  pointwise [prod]

theorem wHalf_apply (W : FVec Ideal S256x2048 .bf16) (d : Bool) (j : S256x1024.Idx) :
    wHalf W d j = entry W (j 0).val (cond d 1024 0 + (j 1).val) := by
  have : wHalf W d j = wCols W ![0, cond d 1024 0] (wOff_inb d) j := by
    pointwise [wHalf]
  rw [this]
  refine entry_of W _ ?_ ?_
  · show 0 + 1 * (j 0).val = _
    omega
  · show cond d 1024 0 + 1 * (j 1).val = _
    omega

theorem xRows_apply (X : FVec Ideal S4096x256 .bf16) (off : Fin 2 → ℕ) (hoff) (b : ℕ) (h : off = ![256 * b, 0]) (j : S256x256.Idx) :
    xRows X off hoff j = entry X (256 * b + (j 0).val) (j 1).val := by
  subst h
  refine entry_of X _ ?_ ?_
  · show 256 * b + 1 * (j 0).val = _
    omega
  · show 0 + 1 * (j 1).val = _
    omega

theorem prod_half (d : Bool) (c : Dev nD) (off : Fin 2 → ℕ) (hoff) (b : ℕ) (h : off = ![256 * b, 0]) (j : S256x1024.Idx) :
    prod (wHalf (wb c) d) (xRows (xb c) off hoff) j = bp xb wb c (256 * b + (j 0).val) (cond d 1024 0 + (j 1).val) := by
  rw [prod_apply, bp]
  refine Finset.sum_congr rfl fun k _ => ?_
  rw [wHalf_apply, xRows_apply _ _ _ b h]
  rfl

theorem part_apply (d : Bool) (c : Dev nD) {h : ℕ} (hh : h < 15) (j : S256x1024.Idx) :
    part xb wb d h c j = bp xb wb c (256 * xBlk d h c + (j 0).val) (cond d 1024 0 + (j 1).val) :=
  prod_half xb wb d c _ _ _ (off2_eq d c hh) j

theorem part0_apply (d : Bool) (c : Dev nD) (j : S256x1024.Idx) :
    part0 xb wb d c j = bp xb wb c (256 * pos c + (j 0).val) (cond d 1024 0 + (j 1).val) :=
  prod_half xb wb d c _ _ _ (off1_eq c) j

/-! ## The messages -/

/-- The element of a product that an element of a message is. -/
def inHalf (s : Bool) (y : S256x512.Idx) : S256x1024.Idx := fun a => match a with
  | 0 => y 0
  | 1 => ⟨cond s 512 0 + (y 1).val, by have h : (y 1).val < 512 := (y 1).isLt; show _ < 1024; cases s <;> simp only [cond_true, cond_false] <;> omega⟩

theorem cut_apply (s : Bool) (p : FVec Ideal S256x1024 .f32) (y : S256x512.Idx) :
    extractStridedSlice S256x512 ![0, cond s 512 0] p (half_slices s) y = p (inHalf s y) := by
  refine congrArg p ?_
  funext a
  apply Fin.ext
  match a with
  | 0 => show 0 + (y 0).val = (y 0).val; omega
  | 1 => rfl

theorem first_apply (s : Bool) (p : FVec Ideal S256x1024 .f32) (y : S256x512.Idx) : (first s p y : EReal) = p (inHalf s y) :=
  cut_apply s p y

theorem summed_apply (s : Bool) (p : FVec Ideal S256x1024 .f32) (v : FVec Ideal S256x512 .bf16) (y : S256x512.Idx) :
    (summed s p v y : EReal) = (v y : EReal) + p (inHalf s y) :=
  congrArg ((v y : EReal) + ·) (cut_apply s p y)

/-- The block of rows that send `h` of device `c` belongs to while the sums are being made. -/
def sBlk (d : Bool) : ℕ → Dev nD → ℕ
  | 0, c => pos c
  | h + 1, c => xBlk d h c

theorem sBlk_src (d : Bool) (c : Dev nD) {h : ℕ} (hh : h < 15) : sBlk d h (src d c) = xBlk d h c := by
  have key : ∀ (d : Bool) (c : Fin 16) (h : Fin 15), sBlk d h.val (src d c) = xBlk d h.val c := by decide +kernel
  exact key d c ⟨h, hh⟩

/-- Send `h` is the sum of the products of the device and of the `h` devices behind it. -/
theorem sent_sum (d s : Bool) : ∀ (h : ℕ) (_ : h ≤ 15) (c : Dev nD) (y : S256x512.Idx),
    (sent xb wb d s h c y : EReal) = ∑ j ∈ Finset.range (h + 1),
      bp xb wb ((src d)^[j] c) (256 * sBlk d h c + (y 0).val) (cond d 1024 0 + (cond s 512 0 + (y 1).val))
  | 0, _, c, y => by
    rw [Finset.sum_range_one, sent, first_apply, part0_apply]
    rfl
  | h + 1, hh, c, y => by
    rw [sent_reduce xb wb d s c (by omega), Finset.sum_range_succ']
    refine (summed_apply s _ _ y).trans ?_
    rw [sent_sum d s h (by omega) (src d c) y, sBlk_src d c (by omega), part_apply xb wb d c (by omega)]
    rfl

/-- From send 15 on the messages are passed along. -/
theorem sent_pass (d s : Bool) : ∀ (n : ℕ) (c : Dev nD), sent xb wb d s (15 + n) c = sent xb wb d s 15 ((src d)^[n] c)
  | 0, _ => rfl
  | n + 1, c => by
    rw [← Nat.add_assoc, sent_gather xb wb d s c (by omega), sent_pass d s n (src d c)]
    rfl

/-- Walking back sixteen times visits every device. -/
theorem sum_devices (d : Bool) (c : Dev nD) (f : Dev nD → EReal) : ∑ j ∈ Finset.range 16, f ((src d)^[j] c) = ∑ c' : Dev nD, f c' := by
  have key : ∀ (d : Bool) (c : Fin 16) (a b : Fin 16), ((src d)^[a.val] c : Fin 16) = (src d)^[b.val] c → a = b := by decide +kernel
  rw [Finset.sum_range]
  exact Fintype.sum_bijective (fun j : Fin 16 => (src d)^[j.val] c) (Finite.injective_iff_bijective.mp fun a b => key d c a b) _ _ fun _ => rfl

theorem oBlk_last (d : Bool) (c : Dev nD) : xBlk d 14 c = oBlk d 14 c := by revert d c; decide +kernel

theorem oBlk_pass (d : Bool) (c : Dev nD) {n : ℕ} (hn : n < 15) : xBlk d 14 ((src d)^[n + 1] c) = oBlk d (15 + n) c := by
  have key : ∀ (d : Bool) (c : Fin 16) (n : Fin 15), xBlk d 14 ((src d)^[n.val + 1] c) = oBlk d (15 + n.val) c := by decide +kernel
  exact key d c ⟨n, hn⟩

/-- What every hop stores is the sum of all the devices' products. -/
theorem stored_sum (d s : Bool) (c : Dev nD) {h : ℕ} (h1 : 14 ≤ h) (h2 : h < 30) (y : S256x512.Idx) :
    (stored xb wb d s h c y : EReal)
      = ∑ c' : Dev nD, bp xb wb c' (256 * oBlk d h c + (y 0).val) (cond d 1024 0 + (cond s 512 0 + (y 1).val)) := by
  have full : ∀ c : Dev nD, (sent xb wb d s 15 c y : EReal)
      = ∑ c' : Dev nD, bp xb wb c' (256 * xBlk d 14 c + (y 0).val) (cond d 1024 0 + (cond s 512 0 + (y 1).val)) := fun c => by
    rw [sent_sum xb wb d s 15 (le_refl _) c y]
    exact sum_devices d c fun c' => bp xb wb c' _ _
  unfold stored
  by_cases h14 : h = 14
  · subst h14
    rw [if_pos rfl, ← oBlk_last, ← full c, sent_reduce xb wb d s c (by omega)]
    rfl
  · rw [if_neg h14]
    obtain ⟨n, rfl⟩ : ∃ n, h = 15 + n := ⟨h - 15, by omega⟩
    rw [← oBlk_pass d c (by omega), ← full, Function.iterate_succ_apply]
    exact congrFun (sent_pass xb wb d s n (src d c)) y

/-- Every entry of the result of every device is the sum of the devices' products. -/
theorem result_sum (c : Dev nD) (y : S4096x2048.Idx) :
    (result xb wb c y : EReal) = ∑ c' : Dev nD, bp xb wb c' (y 0).val (y 1).val := by
  have y0 : (y 0).val < 4096 := (y 0).isLt
  have y1 : (y 1).val < 2048 := (y 1).isLt
  obtain ⟨h1, h2, h3⟩ := hopOf_spec (decide (1024 ≤ (y 1).val)) c ((y 0).val / 256) (by omega)
  refine (stored_sum xb wb _ _ c h1 h2 (inBlk y)).trans ?_
  have e0 : 256 * ((y 0).val / 256) + (inBlk y 0).val = (y 0).val := by
    show 256 * ((y 0).val / 256) + (y 0).val % 256 = (y 0).val
    omega
  have e1 : cond (decide (1024 ≤ (y 1).val)) 1024 0 + (cond (decide (512 ≤ (y 1).val % 1024)) 512 0 + (inBlk y 1).val) = (y 1).val := by
    show cond _ 1024 0 + (cond _ 512 0 + (y 1).val % 512) = (y 1).val
    rw [Bool.cond_decide, Bool.cond_decide]
    split <;> split <;> omega
  rw [h3, e0, e1]

end Products

/-! ## The whole product -/

/-- The sum of the devices' products is the product of the operands the devices hold blocks of. -/
theorem sum_blocks (X : (⟨2, ![4096, 4096]⟩ : Shape).Idx → EReal) (W : (⟨2, ![4096, 2048]⟩ : Shape).Idx → EReal) (y : S4096x2048.Idx) :
    ∑ c : Dev nD, bp (fun c => Layout.block ⟨2, ![4096, 256]⟩ ⟨2, ![4096, 4096]⟩ 1 16 c X) (fun c => Layout.block ⟨2, ![256, 2048]⟩ ⟨2, ![4096, 2048]⟩ 0 16 c W) c (y 0).val (y 1).val
      = ∑ k : Fin 4096, X (ix2 (y 0) k) * W (ix2 k (y 1)) := by
  rw [Fin.sum_univ_tiles 16 256 rfl]
  refine Finset.sum_congr rfl fun c _ => ?_
  rw [bp]
  refine Finset.sum_congr rfl fun k _ => ?_
  congr 1
  · refine (entry_of _ (ix2 (y 0) k) rfl rfl).symm.trans ?_
    refine congrArg X ?_
    funext a
    apply Fin.ext
    match a with
    | 0 => rfl
    | 1 => rfl
  · refine (entry_of _ (ix2 k (y 1)) rfl rfl).symm.trans ?_
    refine congrArg W ?_
    funext a
    apply Fin.ext
    match a with
    | 0 => rfl
    | 1 => rfl

end Cert.Ring16

end
-- ==== Proof.lean ====
/- The certificate: the frames of the three programs, and the result of the sixteen devices against the product. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring16.Launch
public import proofs.«01_k».proof.Proof.Ring16.Sum

@[expose] public section

noncomputable section

namespace Cert.Proof

open Idealize.ShloMosaic Idealize.SL.Sem

/-- The frame of the kernel's text read over the float values `F`: it ends, its operands are unchanged, its counters are zero. -/
def FrameOf (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frame_of (F : FTy → Type) [FloatOps F] : FrameOf F := fun m ρ _ =>
  (θ_run Cert.KernelIdeal.defs _ _).mono (fun _ h => ⟨fun c => (h.1 c).2, h.2⟩) (Cert.Ring16.run_main (F := F) m ρ)

/-- The two programs have one text, so the two frames are `FrameOf` at the two kinds of float values. -/
theorem kernel_frame_eq : Cert.quiescent_Kernel = FrameOf Bits := by sl_kernel_rfl
theorem ideal_frame_eq : Cert.quiescent_KernelIdeal = FrameOf Ideal := by sl_kernel_rfl

theorem frame_kernel : Cert.quiescent_Kernel := kernel_frame_eq.mpr (frame_of Bits)
theorem frame_kernelIdeal : Cert.quiescent_KernelIdeal := ideal_frame_eq.mpr (frame_of Ideal)

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- The reference's product, entry by entry. -/
theorem reference_apply (X : FVec Ideal Cert.ReferenceIdeal.S4096x4096 .bf16) (W : FVec Ideal Cert.ReferenceIdeal.S4096x2048 .bf16) (y : Cert.ReferenceIdeal.S4096x2048.Idx) :
    Host.dotGeneral Cert.ReferenceIdeal.dot_S4096x4096_S4096x2048_S4096x2048_1_0_0_1_n_n none (extf .f32 X Cert.ReferenceIdeal.Gen.bitsLt_bf16_f32) (extf .f32 W Cert.ReferenceIdeal.Gen.bitsLt_bf16_f32) y
      = ∑ k : Fin 4096, (X (ix2 (y 0) k) : EReal) * W (ix2 k (y 1)) := by
  pointwise

/-- The result of every device, from blocks of two operands, is the product of the operands. -/
theorem result_eq (X : FVec Ideal Cert.ReferenceIdeal.S4096x4096 .bf16) (W : FVec Ideal Cert.ReferenceIdeal.S4096x2048 .bf16)
    (xb : Dev Cert.KernelIdeal.nD → FVec Ideal Cert.KernelIdeal.S4096x256 .bf16) (wb : Dev Cert.KernelIdeal.nD → FVec Ideal Cert.KernelIdeal.S256x2048 .bf16)
    (hx : ∀ c, xb c = Layout.block ⟨2, ![4096, 256]⟩ ⟨2, ![4096, 4096]⟩ 1 16 c X) (hw : ∀ c, wb c = Layout.block ⟨2, ![256, 2048]⟩ ⟨2, ![4096, 2048]⟩ 0 16 c W)
    (c : Dev Cert.KernelIdeal.nD) :
    Cert.Ring16.result xb wb c = Host.dotGeneral Cert.ReferenceIdeal.dot_S4096x4096_S4096x2048_S4096x2048_1_0_0_1_n_n none (extf .f32 X Cert.ReferenceIdeal.Gen.bitsLt_bf16_f32) (extf .f32 W Cert.ReferenceIdeal.Gen.bitsLt_bf16_f32) := by
  obtain rfl : xb = _ := funext hx
  obtain rfl : wb = _ := funext hw
  funext y
  exact (Cert.Ring16.result_sum _ _ c y).trans ((Cert.Ring16.sum_blocks X W y).trans (reference_apply X W y).symm)

theorem value : Cert.algebraic_KernelIdeal_ReferenceIdeal := fun m ρ m' ρ' _ hb =>
  ⟨_, (θ_run Cert.KernelIdeal.defs _ _).mono
      (fun _ h c => ⟨(h.1 c).1.trans (result_eq _ _ _ _ (fun c => (hb c).1) (fun c => (hb c).2) c), (h.1 c).2⟩)
      (Cert.Ring16.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts, frame_kernel, frame_kernelIdeal, frame_reference, trivial, value⟩

end Cert.Proof

end
